-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_bounded [hPre_logits_bounded : Cert.Pre_logits_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_logits_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_bounded [hPre_logits_bounded : Cert.Pre_logits_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_logits_bounded [hKernelIdeal : Cert.KernelIdeal.Facts] [hPre_logits_bounded : Cert.Pre_logits_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_logits_bounded [hReferenceIdeal : Cert.ReferenceIdeal.Facts] [hPre_logits_bounded : Cert.Pre_logits_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_logits_bounded [hKernelIdeal : Cert.KernelIdeal.Facts] [hReferenceIdeal : Cert.ReferenceIdeal.Facts] [hPre_logits_bounded : Cert.Pre_logits_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v504) = v0 c
          ∧ r.2.mem ((c.tc : Thread Cert.ReferenceIdeal.nD Cert.ReferenceIdeal.τ).loc Cert.ReferenceIdeal.main_v506) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_logits_bounded : Cert.Pre_logits_bounded.Facts),
    quiescent_Kernel (hKernel := hKernel)
    ∧ quiescent_KernelIdeal (hKernelIdeal := hKernelIdeal)
    ∧ quiescent_KernelIdeal_pre_logits_bounded (hKernelIdeal := hKernelIdeal) (hPre_logits_bounded := hPre_logits_bounded)
    ∧ quiescent_ReferenceIdeal (hReferenceIdeal := hReferenceIdeal)
    ∧ quiescent_ReferenceIdeal_pre_logits_bounded (hReferenceIdeal := hReferenceIdeal) (hPre_logits_bounded := hPre_logits_bounded)
    ∧ preserves_Kernel_KernelIdeal
    ∧ algebraic_KernelIdeal_ReferenceIdeal_pre_logits_bounded (hKernelIdeal := hKernelIdeal) (hReferenceIdeal := hReferenceIdeal) (hPre_logits_bounded := hPre_logits_bounded)
-- ==== Pre_logits_bounded.lean ====
abbrev S1x16384x130 : Shape := ⟨3, ![1, 16384, 130]⟩
abbrev S400x154 : Shape := ⟨2, ![400, 154]⟩
abbrev S400x100 : Shape := ⟨2, ![400, 100]⟩
abbrev S400 : Shape := ⟨1, ![400]⟩
abbrev S24x100 : Shape := ⟨2, ![24, 100]⟩
abbrev S24 : Shape := ⟨1, ![24]⟩
abbrev S5x16384x24 : Shape := ⟨3, ![5, 16384, 24]⟩
abbrev S_ : Shape := ⟨0, ![]⟩

class Facts : Prop where
  reducesTo_S24x100_S24_d1 : S24x100.ReducesTo [1] S24
  h_S_ : 0 < S_.numel
  bcast_S_S24 : S_.BroadcastsInDim S24 (![] : Fin 0 → Fin S24.rank)
  reducesTo_S24_S_d0 : S24.ReducesTo [0] S_

variable [Facts]

def fn {F : FTy → Type} [FloatOps F] (main_arg0 : FVec F S1x16384x130 .f32) (main_arg1 : FVec F S400x154 .f32) (main_arg2 : FVec F S400x100 .f32) (main_arg3 : FVec F S400 .f32) (main_arg4 : FVec F S400 .f32) (main_arg5 : FVec F S24x100 .f32) (main_arg6 : FVec F S24 .f32) (main_arg7 : FVec F S5x16384x24 .f32) : IVec S_ 1 :=
  let main_v0 : FVec F S24x100 .f32 := Host.absf main_arg5
  let main_cst : FVec F S_ .f32 := constant S_ .f32 0x00000000#32
  let main_v1 : FVec F S24 .f32 := (fun x v => Host.reduceAdd x v reducesTo_S24x100_S24_d1 h_S_) main_v0 main_cst
  let main_v2 : FVec F S24 .f32 := Host.absf main_arg6
  let main_v3 : FVec F S24 .f32 := addf main_v1 main_v2
  let main_cst_0 : FVec F S_ .f32 := constant S_ .f32 0x42000000#32
  let main_v4 : FVec F S24 .f32 := broadcastInDim S24 ![] bcast_S_S24 main_cst_0
  let main_v5 : IVec S24 1 := cmpf .ole main_v3 main_v4
  let main_c : IVec S_ 1 := constantI S_ 1 1#1
  let main_v6 : IVec S_ 1 := (fun x v => Host.reduce IntOp.andi x v reducesTo_S24_S_d0 h_S_) main_v5 main_c
  main_v6
-- ==== Kernel.lean ====
abbrev S1x16384x130 : Shape := ⟨3, ![1, 16384, 130]⟩
abbrev S400x154 : Shape := ⟨2, ![400, 154]⟩
abbrev S400x100 : Shape := ⟨2, ![400, 100]⟩
abbrev S400 : Shape := ⟨1, ![400]⟩
abbrev S24x100 : Shape := ⟨2, ![24, 100]⟩
abbrev S24 : Shape := ⟨1, ![24]⟩
abbrev S5x16384x24 : Shape := ⟨3, ![5, 16384, 24]⟩
abbrev S24x24 : Shape := ⟨2, ![24, 24]⟩
abbrev S154x400 : Shape := ⟨2, ![154, 400]⟩
abbrev S1x400 : Shape := ⟨2, ![1, 400]⟩
abbrev S_ : Shape := ⟨0, ![]⟩
abbrev S1x128 : Shape := ⟨2, ![1, 128]⟩
abbrev S1x384 : Shape := ⟨2, ![1, 384]⟩
abbrev S154x28 : Shape := ⟨2, ![154, 28]⟩
abbrev S154x100 : Shape := ⟨2, ![154, 100]⟩
abbrev S154x384 : Shape := ⟨2, ![154, 384]⟩
abbrev S130x384 : Shape := ⟨2, ![130, 384]⟩
abbrev S24x384 : Shape := ⟨2, ![24, 384]⟩
abbrev S24x408 : Shape := ⟨2, ![24, 408]⟩
abbrev S1x28 : Shape := ⟨2, ![1, 28]⟩
abbrev S1x100 : Shape := ⟨2, ![1, 100]⟩
abbrev S100x24 : Shape := ⟨2, ![100, 24]⟩
abbrev S28x24 : Shape := ⟨2, ![28, 24]⟩
abbrev S128x24 : Shape := ⟨2, ![128, 24]⟩
abbrev S1x24 : Shape := ⟨2, ![1, 24]⟩
abbrev S16384x12 : Shape := ⟨2, ![16384, 12]⟩
abbrev S16384x24 : Shape := ⟨2, ![16384, 24]⟩
abbrev S1x2048x130 : Shape := ⟨3, ![1, 2048, 130]⟩
abbrev S5x2048x24 : Shape := ⟨3, ![5, 2048, 24]⟩
abbrev S2048x12 : Shape := ⟨2, ![2048, 12]⟩
abbrev S2048x24 : Shape := ⟨2, ![2048, 24]⟩
abbrev S2048x130 : Shape := ⟨2, ![2048, 130]⟩
abbrev S2048x384 : Shape := ⟨2, ![2048, 384]⟩
abbrev S1x2048x24 : Shape := ⟨3, ![1, 2048, 24]⟩
abbrev S2048x128 : Shape := ⟨2, ![2048, 128]⟩
abbrev S2048 : Shape := ⟨1, ![2048]⟩
abbrev S2048x1 : Shape := ⟨2, ![2048, 1]⟩
abbrev S2048x408 : Shape := ⟨2, ![2048, 408]⟩

abbrev nBuf : Space → Nat
  | .hbm => 45
  | .vmem => 14
  | .smem => 0
  | _ => 0

abbrev bufTy : (tb : Table) → Fin (tcTables nBuf tb) → BufTy
  | .hbm, ⟨0, _⟩ => ⟨S1x16384x130, .f32⟩
  | .hbm, ⟨1, _⟩ => ⟨S400x154, .f32⟩
  | .hbm, ⟨2, _⟩ => ⟨S400x100, .f32⟩
  | .hbm, ⟨3, _⟩ => ⟨S400, .f32⟩
  | .hbm, ⟨4, _⟩ => ⟨S400, .f32⟩
  | .hbm, ⟨5, _⟩ => ⟨S24x100, .f32⟩
  | .hbm, ⟨6, _⟩ => ⟨S24, .f32⟩
  | .hbm, ⟨7, _⟩ => ⟨S5x16384x24, .f32⟩
  | .hbm, ⟨8, _⟩ => ⟨S24x24, .f32⟩
  | .hbm, ⟨9, _⟩ => ⟨S24x24, .f32⟩
  | .hbm, ⟨10, _⟩ => ⟨S154x400, .f32⟩
  | .hbm, ⟨11, _⟩ => ⟨S400, .f32⟩
  | .hbm, ⟨12, _⟩ => ⟨S1x400, .f32⟩
  | .hbm, ⟨13, _⟩ => ⟨S_, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x384, .f32⟩
  | .hbm, ⟨20, _⟩ => ⟨S_, .f32⟩
  | .hbm, ⟨21, _⟩ => ⟨S154x28, .f32⟩
  | .hbm, ⟨22, _⟩ => ⟨S154x100, .f32⟩
  | .hbm, ⟨23, _⟩ => ⟨S154x100, .f32⟩
  | .hbm, ⟨24, _⟩ => ⟨S154x100, .f32⟩
  | .hbm, ⟨25, _⟩ => ⟨S154x384, .f32⟩
  | .hbm, ⟨26, _⟩ => ⟨S154x384, .f32⟩
  | .hbm, ⟨27, _⟩ => ⟨S154x384, .f32⟩
  | .hbm, ⟨28, _⟩ => ⟨S130x384, .f32⟩
  | .hbm, ⟨29, _⟩ => ⟨S24x384, .f32⟩
  | .hbm, ⟨30, _⟩ => ⟨S24x408, .f32⟩
  | .hbm, ⟨31, _⟩ => ⟨S_, .f32⟩
  | .hbm, ⟨32, _⟩ => ⟨S1x28, .f32⟩
  | .hbm, ⟨33, _⟩ => ⟨S1x100, .f32⟩
  | .hbm, ⟨34, _⟩ => ⟨S1x100, .f32⟩
  | .hbm, ⟨35, _⟩ => ⟨S1x100, .f32⟩
  | .hbm, ⟨36, _⟩ => ⟨S1x384, .f32⟩
  | .hbm, ⟨37, _⟩ => ⟨S1x384, .f32⟩
  | .hbm, ⟨38, _⟩ => ⟨S100x24, .f32⟩
  | .hbm, ⟨39, _⟩ => ⟨S_, .f32⟩
  | .hbm, ⟨40, _⟩ => ⟨S28x24, .f32⟩
  | .hbm, ⟨41, _⟩ => ⟨S128x24, .f32⟩
  | .hbm, ⟨42, _⟩ => ⟨S1x24, .f32⟩
  | .hbm, ⟨43, _⟩ => ⟨S16384x12, .f32⟩
  | .hbm, ⟨44, _⟩ => ⟨S16384x24, .f32⟩
  | .local _ .vmem, ⟨0, _⟩ => ⟨S1x2048x130, .f32⟩
  | .local _ .vmem, ⟨1, _⟩ => ⟨S1x2048x130, .f32⟩
  | .local _ .vmem, ⟨2, _⟩ => ⟨S130x384, .f32⟩
  | .local _ .vmem, ⟨3, _⟩ => ⟨S24x408, .f32⟩
  | .local _ .vmem, ⟨4, _⟩ => ⟨S1x384, .f32⟩
  | .local _ .vmem, ⟨5, _⟩ => ⟨S128x24, .f32⟩
  | .local _ .vmem, ⟨6, _⟩ => ⟨S1x24, .f32⟩
  | .local _ .vmem, ⟨7, _⟩ => ⟨S24x24, .f32⟩
  | .local _ .vmem, ⟨8, _⟩ => ⟨S5x2048x24, .f32⟩
  | .local _ .vmem, ⟨9, _⟩ => ⟨S5x2048x24, .f32⟩
  | .local _ .vmem, ⟨10, _⟩ => ⟨S2048x12, .f32⟩
  | .local _ .vmem, ⟨11, _⟩ => ⟨S2048x12, .f32⟩
  | .local _ .vmem, ⟨12, _⟩ => ⟨S2048x24, .f32⟩
  | .local _ .vmem, ⟨13, _⟩ => ⟨S2048x24, .f32⟩
  | _, _ => ⟨S1x16384x130, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_cst_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S130x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x2048x24 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x12 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x24 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x16384x130 : Shape := ⟨3, ![1, 16384, 130]⟩
abbrev S400x154 : Shape := ⟨2, ![400, 154]⟩
abbrev S400x100 : Shape := ⟨2, ![400, 100]⟩
abbrev S400 : Shape := ⟨1, ![400]⟩
abbrev S24x100 : Shape := ⟨2, ![24, 100]⟩
abbrev S24 : Shape := ⟨1, ![24]⟩
abbrev S5x16384x24 : Shape := ⟨3, ![5, 16384, 24]⟩
abbrev S_ : Shape := ⟨0, ![]⟩
abbrev S1x16384x12 : Shape := ⟨3, ![1, 16384, 12]⟩
abbrev S16384x130 : Shape := ⟨2, ![16384, 130]⟩
abbrev S16384x12 : Shape := ⟨2, ![16384, 12]⟩
abbrev S16384x154 : Shape := ⟨2, ![16384, 154]⟩
abbrev S16384x100 : Shape := ⟨2, ![16384, 100]⟩
abbrev S154x400 : Shape := ⟨2, ![154, 400]⟩
abbrev S16384x400 : Shape := ⟨2, ![16384, 400]⟩
abbrev S100x400 : Shape := ⟨2, ![100, 400]⟩
abbrev S1x400 : Shape := ⟨2, ![1, 400]⟩
abbrev S100x24 : Shape := ⟨2, ![100, 24]⟩
abbrev S16384x24 : Shape := ⟨2, ![16384, 24]⟩
abbrev S1x24 : Shape := ⟨2, ![1, 24]⟩
abbrev S16384 : Shape := ⟨1, ![16384]⟩
abbrev S16384x1 : Shape := ⟨2, ![16384, 1]⟩
abbrev S1x16384x24 : Shape := ⟨3, ![1, 16384, 24]⟩

abbrev nBuf : Space → Nat
  | .hbm => 724
  | .vmem => 0
  | .smem => 0
  | _ => 0

abbrev hbmTy0_0 (i : Nat) : BufTy := match i % 128 with
  | 0 => ⟨S1x16384x130, .f32⟩
  | 1 => ⟨S400x154, .f32⟩
  | 2 => ⟨S400x100, .f32⟩
  | 3 => ⟨S400, .f32⟩
  | 4 => ⟨S400, .f32⟩
  | 5 => ⟨S24x100, .f32⟩
  | 6 => ⟨S24, .f32⟩
  | 7 => ⟨S5x16384x24, .f32⟩
  | 8 => ⟨S_, .f32⟩
  | 9 => ⟨S1x16384x12, .f32⟩
  | 10 => ⟨S_, .f32⟩
  | 11 => ⟨S1x16384x12, .f32⟩
  | 12 => ⟨S_, .f32⟩
  | 13 => ⟨S1x16384x12, .f32⟩
  | 14 => ⟨S_, .f32⟩
  | 15 => ⟨S1x16384x12, .f32⟩
  | 16 => ⟨S16384x130, .f32⟩
  | 17 => ⟨S16384x12, .f32⟩
  | 18 => ⟨S16384x12, .f32⟩
  | 19 => ⟨S16384x154, .f32⟩
  | 20 => ⟨S_, .f32⟩
  | 21 => ⟨S16384x100, .f32⟩
  | 22 => ⟨S_, .f32⟩
  | 23 => ⟨S16384x100, .f32⟩
  | 24 => ⟨S154x400, .f32⟩
  | 25 => ⟨S16384x400, .f32⟩
  | 26 => ⟨S100x400, .f32⟩
  | 27 => ⟨S16384x400, .f32⟩
  | 28 => ⟨S16384x400, .f32⟩
  | 29 => ⟨S1x400, .f32⟩
  | 30 => ⟨S16384x400, .f32⟩
  | 31 => ⟨S16384x400, .f32⟩
  | 32 => ⟨S1x400, .f32⟩
  | 33 => ⟨S16384x400, .f32⟩
  | 34 => ⟨S16384x400, .f32⟩
  | 35 => ⟨S16384x100, .f32⟩
  | 36 => ⟨S16384x100, .f32⟩
  | 37 => ⟨S16384x100, .f32⟩
  | 38 => ⟨S16384x100, .f32⟩
  | 39 => ⟨S16384x100, .f32⟩
  | 40 => ⟨S16384x100, .f32⟩
  | 41 => ⟨S_, .f32⟩
  | 42 => ⟨S16384x100, .f32⟩
  | 43 => ⟨S16384x100, .f32⟩
  | 44 => ⟨S_, .f32⟩
  | 45 => ⟨S16384x100, .f32⟩
  | 46 => ⟨S16384x100, .f32⟩
  | 47 => ⟨S16384x100, .f32⟩
  | 48 => ⟨S16384x100, .f32⟩
  | 49 => ⟨S_, .f32⟩
  | 50 => ⟨S16384x100, .f32⟩
  | 51 => ⟨S16384x100, .f32⟩
  | 52 => ⟨S_, .f32⟩
  | 53 => ⟨S16384x100, .f32⟩
  | 54 => ⟨S16384x100, .f32⟩
  | 55 => ⟨S16384x100, .f32⟩
  | 56 => ⟨S16384x100, .f32⟩
  | 57 => ⟨S16384x100, .f32⟩
  | 58 => ⟨S_, .f32⟩
  | 59 => ⟨S16384x100, .f32⟩
  | 60 => ⟨S16384x100, .f32⟩
  | 61 => ⟨S_, .f32⟩
  | 62 => ⟨S16384x100, .f32⟩
  | 63 => ⟨S16384x100, .f32⟩
  | 64 => ⟨S16384x100, .f32⟩
  | 65 => ⟨S16384x100, .f32⟩
  | 66 => ⟨S16384x100, .f32⟩
  | 67 => ⟨S16384x100, .f32⟩
  | 68 => ⟨S16384x100, .f32⟩
  | 69 => ⟨S100x24, .f32⟩
  | 70 => ⟨S16384x24, .f32⟩
  | 71 => ⟨S1x24, .f32⟩
  | 72 => ⟨S16384x24, .f32⟩
  | 73 => ⟨S16384x24, .f32⟩
  | 74 => ⟨S16384x12, .f32⟩
  | 75 => ⟨S16384x12, .f32⟩
  | 76 => ⟨S16384x24, .f32⟩
  | 77 => ⟨S_, .f32⟩
  | 78 => ⟨S16384x24, .f32⟩
  | 79 => ⟨S16384x24, .f32⟩
  | 80 => ⟨S16384x12, .f32⟩
  | 81 => ⟨S16384x12, .f32⟩
  | 82 => ⟨S16384x24, .f32⟩
  | 83 => ⟨S_, .f32⟩
  | 84 => ⟨S16384x24, .f32⟩
  | 85 => ⟨S16384x24, .f32⟩
  | 86 => ⟨S16384x24, .f32⟩
  | 87 => ⟨S16384x24, .f32⟩
  | 88 => ⟨S16384x24, .f32⟩
  | 89 => ⟨S_, .f32⟩
  | 90 => ⟨S16384, .f32⟩
  | 91 => ⟨S16384x1, .f32⟩
  | 92 => ⟨S16384x24, .f32⟩
  | 93 => ⟨S16384x24, .f32⟩
  | 94 => ⟨S_, .f32⟩
  | 95 => ⟨S16384x24, .f32⟩
  | 96 => ⟨S16384x24, .i1⟩
  | 97 => ⟨S_, .f32⟩
  | 98 => ⟨S16384x24, .f32⟩
  | 99 => ⟨S16384x24, .f32⟩
  | 100 => ⟨S16384x24, .f32⟩
  | 101 => ⟨S_, .f32⟩
  | 102 => ⟨S_, .f32⟩
  | 103 => ⟨S16384x24, .f32⟩
  | 104 => ⟨S16384x24, .f32⟩
  | 105 => ⟨S1x16384x24, .f32⟩
  | 106 => ⟨S16384x24, .f32⟩
  | 107 => ⟨S16384x24, .f32⟩
  | 108 => ⟨S_, .f32⟩
  | 109 => ⟨S16384, .f32⟩
  | 110 => ⟨S16384x1, .f32⟩
  | 111 => ⟨S16384x24, .f32⟩
  | 112 => ⟨S16384x24, .i1⟩
  | 113 => ⟨S24, .i32⟩
  | 114 => ⟨S_, .i32⟩
  | 115 => ⟨S_, .i32⟩
  | 116 => ⟨S16384x24, .i32⟩
  | 117 => ⟨S16384x24, .i32⟩
  | 118 => ⟨S16384x24, .i32⟩
  | 119 => ⟨S_, .i32⟩
  | 120 => ⟨S16384, .i32⟩
  | 121 => ⟨S16384x1, .i32⟩
  | 122 => ⟨S1x24, .i32⟩
  | 123 => ⟨S16384x24, .i32⟩
  | 124 => ⟨S16384x24, .i32⟩
  | 125 => ⟨S16384x24, .i1⟩
  | 126 => ⟨S16384x24, .f32⟩
  | 127 => ⟨S16384x12, .f32⟩
  | _ => ⟨S1x16384x130, .f32⟩

abbrev hbmTy0_1 (i : Nat) : BufTy := match i % 128 with
  | 0 => ⟨S16384x12, .f32⟩
  | 1 => ⟨S16384x12, .f32⟩
  | 2 => ⟨S16384x12, .f32⟩
  | 3 => ⟨S1x16384x12, .f32⟩
  | 4 => ⟨S1x16384x12, .f32⟩
  | 5 => ⟨S16384x12, .f32⟩
  | 6 => ⟨S16384x12, .f32⟩
  | 7 => ⟨S1x16384x12, .f32⟩
  | 8 => ⟨S1x16384x12, .f32⟩
  | 9 => ⟨S1x16384x12, .f32⟩
  | 10 => ⟨S1x16384x12, .f32⟩
  | 11 => ⟨S_, .f32⟩
  | 12 => ⟨S_, .f32⟩
  | 13 => ⟨S_, .f32⟩
  | 14 => ⟨S1x16384x12, .f32⟩
  | 15 => ⟨S1x16384x12, .f32⟩
  | 16 => ⟨S_, .f32⟩
  | 17 => ⟨S1x16384x12, .f32⟩
  | 18 => ⟨S1x16384x12, .f32⟩
  | 19 => ⟨S1x16384x12, .f32⟩
  | 20 => ⟨S1x16384x12, .f32⟩
  | 21 => ⟨S_, .f32⟩
  | 22 => ⟨S_, .f32⟩
  | 23 => ⟨S_, .f32⟩
  | 24 => ⟨S1x16384x12, .f32⟩
  | 25 => ⟨S1x16384x12, .f32⟩
  | 26 => ⟨S_, .f32⟩
  | 27 => ⟨S1x16384x12, .f32⟩
  | 28 => ⟨S1x16384x12, .f32⟩
  | 29 => ⟨S16384x130, .f32⟩
  | 30 => ⟨S16384x12, .f32⟩
  | 31 => ⟨S16384x12, .f32⟩
  | 32 => ⟨S16384x154, .f32⟩
  | 33 => ⟨S_, .f32⟩
  | 34 => ⟨S16384x100, .f32⟩
  | 35 => ⟨S_, .f32⟩
  | 36 => ⟨S16384x100, .f32⟩
  | 37 => ⟨S154x400, .f32⟩
  | 38 => ⟨S16384x400, .f32⟩
  | 39 => ⟨S100x400, .f32⟩
  | 40 => ⟨S16384x400, .f32⟩
  | 41 => ⟨S16384x400, .f32⟩
  | 42 => ⟨S1x400, .f32⟩
  | 43 => ⟨S16384x400, .f32⟩
  | 44 => ⟨S16384x400, .f32⟩
  | 45 => ⟨S1x400, .f32⟩
  | 46 => ⟨S16384x400, .f32⟩
  | 47 => ⟨S16384x400, .f32⟩
  | 48 => ⟨S16384x100, .f32⟩
  | 49 => ⟨S16384x100, .f32⟩
  | 50 => ⟨S16384x100, .f32⟩
  | 51 => ⟨S16384x100, .f32⟩
  | 52 => ⟨S16384x100, .f32⟩
  | 53 => ⟨S16384x100, .f32⟩
  | 54 => ⟨S_, .f32⟩
  | 55 => ⟨S16384x100, .f32⟩
  | 56 => ⟨S16384x100, .f32⟩
  | 57 => ⟨S_, .f32⟩
  | 58 => ⟨S16384x100, .f32⟩
  | 59 => ⟨S16384x100, .f32⟩
  | 60 => ⟨S16384x100, .f32⟩
  | 61 => ⟨S16384x100, .f32⟩
  | 62 => ⟨S_, .f32⟩
  | 63 => ⟨S16384x100, .f32⟩
  | 64 => ⟨S16384x100, .f32⟩
  | 65 => ⟨S_, .f32⟩
  | 66 => ⟨S16384x100, .f32⟩
  | 67 => ⟨S16384x100, .f32⟩
  | 68 => ⟨S16384x100, .f32⟩
  | 69 => ⟨S16384x100, .f32⟩
  | 70 => ⟨S16384x100, .f32⟩
  | 71 => ⟨S_, .f32⟩
  | 72 => ⟨S16384x100, .f32⟩
  | 73 => ⟨S16384x100, .f32⟩
  | 74 => ⟨S_, .f32⟩
  | 75 => ⟨S16384x100, .f32⟩
  | 76 => ⟨S16384x100, .f32⟩
  | 77 => ⟨S16384x100, .f32⟩
  | 78 => ⟨S16384x100, .f32⟩
  | 79 => ⟨S16384x100, .f32⟩
  | 80 => ⟨S16384x100, .f32⟩
  | 81 => ⟨S16384x100, .f32⟩
  | 82 => ⟨S100x24, .f32⟩
  | 83 => ⟨S16384x24, .f32⟩
  | 84 => ⟨S1x24, .f32⟩
  | 85 => ⟨S16384x24, .f32⟩
  | 86 => ⟨S16384x24, .f32⟩
  | 87 => ⟨S16384x12, .f32⟩
  | 88 => ⟨S16384x12, .f32⟩
  | 89 => ⟨S16384x24, .f32⟩
  | 90 => ⟨S_, .f32⟩
  | 91 => ⟨S16384x24, .f32⟩
  | 92 => ⟨S16384x24, .f32⟩
  | 93 => ⟨S16384x12, .f32⟩
  | 94 => ⟨S16384x12, .f32⟩
  | 95 => ⟨S16384x24, .f32⟩
  | 96 => ⟨S_, .f32⟩
  | 97 => ⟨S16384x24, .f32⟩
  | 98 => ⟨S16384x24, .f32⟩
  | 99 => ⟨S16384x24, .f32⟩
  | 100 => ⟨S16384x24, .f32⟩
  | 101 => ⟨S16384x24, .f32⟩
  | 102 => ⟨S_, .f32⟩
  | 103 => ⟨S16384, .f32⟩
  | 104 => ⟨S16384x1, .f32⟩
  | 105 => ⟨S16384x24, .f32⟩
  | 106 => ⟨S16384x24, .f32⟩
  | 107 => ⟨S_, .f32⟩
  | 108 => ⟨S16384x24, .f32⟩
  | 109 => ⟨S16384x24, .i1⟩
  | 110 => ⟨S_, .f32⟩
  | 111 => ⟨S16384x24, .f32⟩
  | 112 => ⟨S16384x24, .f32⟩
  | 113 => ⟨S16384x24, .f32⟩
  | 114 => ⟨S_, .f32⟩
  | 115 => ⟨S_, .f32⟩
  | 116 => ⟨S16384x24, .f32⟩
  | 117 => ⟨S16384x24, .f32⟩
  | 118 => ⟨S1x16384x24, .f32⟩
  | 119 => ⟨S16384x24, .f32⟩
  | 120 => ⟨S16384x24, .f32⟩
  | 121 => ⟨S_, .f32⟩
  | 122 => ⟨S16384, .f32⟩
  | 123 => ⟨S16384x1, .f32⟩
  | 124 => ⟨S16384x24, .f32⟩
  | 125 => ⟨S16384x24, .i1⟩
  | 126 => ⟨S24, .i32⟩
  | 127 => ⟨S_, .i32⟩
  | _ => ⟨S1x16384x130, .f32⟩

abbrev hbmTy0_2 (i : Nat) : BufTy := match i % 128 with
  | 0 => ⟨S_, .i32⟩
  | 1 => ⟨S16384x24, .i32⟩
  | 2 => ⟨S16384x24, .i32⟩
  | 3 => ⟨S16384x24, .i32⟩
  | 4 => ⟨S_, .i32⟩
  | 5 => ⟨S16384, .i32⟩
  | 6 => ⟨S16384x1, .i32⟩
  | 7 => ⟨S1x24, .i32⟩
  | 8 => ⟨S16384x24, .i32⟩
  | 9 => ⟨S16384x24, .i32⟩
  | 10 => ⟨S16384x24, .i1⟩
  | 11 => ⟨S16384x24, .f32⟩
  | 12 => ⟨S16384x12, .f32⟩
  | 13 => ⟨S16384x12, .f32⟩
  | 14 => ⟨S16384x12, .f32⟩
  | 15 => ⟨S16384x12, .f32⟩
  | 16 => ⟨S1x16384x12, .f32⟩
  | 17 => ⟨S1x16384x12, .f32⟩
  | 18 => ⟨S16384x12, .f32⟩
  | 19 => ⟨S16384x12, .f32⟩
  | 20 => ⟨S1x16384x12, .f32⟩
  | 21 => ⟨S1x16384x12, .f32⟩
  | 22 => ⟨S1x16384x12, .f32⟩
  | 23 => ⟨S1x16384x12, .f32⟩
  | 24 => ⟨S_, .f32⟩
  | 25 => ⟨S_, .f32⟩
  | 26 => ⟨S_, .f32⟩
  | 27 => ⟨S1x16384x12, .f32⟩
  | 28 => ⟨S1x16384x12, .f32⟩
  | 29 => ⟨S_, .f32⟩
  | 30 => ⟨S1x16384x12, .f32⟩
  | 31 => ⟨S1x16384x12, .f32⟩
  | 32 => ⟨S1x16384x12, .f32⟩
  | 33 => ⟨S1x16384x12, .f32⟩
  | 34 => ⟨S_, .f32⟩
  | 35 => ⟨S_, .f32⟩
  | 36 => ⟨S_, .f32⟩
  | 37 => ⟨S1x16384x12, .f32⟩
  | 38 => ⟨S1x16384x12, .f32⟩
  | 39 => ⟨S_, .f32⟩
  | 40 => ⟨S1x16384x12, .f32⟩
  | 41 => ⟨S1x16384x12, .f32⟩
  | 42 => ⟨S16384x130, .f32⟩
  | 43 => ⟨S16384x12, .f32⟩
  | 44 => ⟨S16384x12, .f32⟩
  | 45 => ⟨S16384x154, .f32⟩
  | 46 => ⟨S_, .f32⟩
  | 47 => ⟨S16384x100, .f32⟩
  | 48 => ⟨S_, .f32⟩
  | 49 => ⟨S16384x100, .f32⟩
  | 50 => ⟨S154x400, .f32⟩
  | 51 => ⟨S16384x400, .f32⟩
  | 52 => ⟨S100x400, .f32⟩
  | 53 => ⟨S16384x400, .f32⟩
  | 54 => ⟨S16384x400, .f32⟩
  | 55 => ⟨S1x400, .f32⟩
  | 56 => ⟨S16384x400, .f32⟩
  | 57 => ⟨S16384x400, .f32⟩
  | 58 => ⟨S1x400, .f32⟩
  | 59 => ⟨S16384x400, .f32⟩
  | 60 => ⟨S16384x400, .f32⟩
  | 61 => ⟨S16384x100, .f32⟩
  | 62 => ⟨S16384x100, .f32⟩
  | 63 => ⟨S16384x100, .f32⟩
  | 64 => ⟨S16384x100, .f32⟩
  | 65 => ⟨S16384x100, .f32⟩
  | 66 => ⟨S16384x100, .f32⟩
  | 67 => ⟨S_, .f32⟩
  | 68 => ⟨S16384x100, .f32⟩
  | 69 => ⟨S16384x100, .f32⟩
  | 70 => ⟨S_, .f32⟩
  | 71 => ⟨S16384x100, .f32⟩
  | 72 => ⟨S16384x100, .f32⟩
  | 73 => ⟨S16384x100, .f32⟩
  | 74 => ⟨S16384x100, .f32⟩
  | 75 => ⟨S_, .f32⟩
  | 76 => ⟨S16384x100, .f32⟩
  | 77 => ⟨S16384x100, .f32⟩
  | 78 => ⟨S_, .f32⟩
  | 79 => ⟨S16384x100, .f32⟩
  | 80 => ⟨S16384x100, .f32⟩
  | 81 => ⟨S16384x100, .f32⟩
  | 82 => ⟨S16384x100, .f32⟩
  | 83 => ⟨S16384x100, .f32⟩
  | 84 => ⟨S_, .f32⟩
  | 85 => ⟨S16384x100, .f32⟩
  | 86 => ⟨S16384x100, .f32⟩
  | 87 => ⟨S_, .f32⟩
  | 88 => ⟨S16384x100, .f32⟩
  | 89 => ⟨S16384x100, .f32⟩
  | 90 => ⟨S16384x100, .f32⟩
  | 91 => ⟨S16384x100, .f32⟩
  | 92 => ⟨S16384x100, .f32⟩
  | 93 => ⟨S16384x100, .f32⟩
  | 94 => ⟨S16384x100, .f32⟩
  | 95 => ⟨S100x24, .f32⟩
  | 96 => ⟨S16384x24, .f32⟩
  | 97 => ⟨S1x24, .f32⟩
  | 98 => ⟨S16384x24, .f32⟩
  | 99 => ⟨S16384x24, .f32⟩
  | 100 => ⟨S16384x12, .f32⟩
  | 101 => ⟨S16384x12, .f32⟩
  | 102 => ⟨S16384x24, .f32⟩
  | 103 => ⟨S_, .f32⟩
  | 104 => ⟨S16384x24, .f32⟩
  | 105 => ⟨S16384x24, .f32⟩
  | 106 => ⟨S16384x12, .f32⟩
  | 107 => ⟨S16384x12, .f32⟩
  | 108 => ⟨S16384x24, .f32⟩
  | 109 => ⟨S_, .f32⟩
  | 110 => ⟨S16384x24, .f32⟩
  | 111 => ⟨S16384x24, .f32⟩
  | 112 => ⟨S16384x24, .f32⟩
  | 113 => ⟨S16384x24, .f32⟩
  | 114 => ⟨S16384x24, .f32⟩
  | 115 => ⟨S_, .f32⟩
  | 116 => ⟨S16384, .f32⟩
  | 117 => ⟨S16384x1, .f32⟩
  | 118 => ⟨S16384x24, .f32⟩
  | 119 => ⟨S16384x24, .f32⟩
  | 120 => ⟨S_, .f32⟩
  | 121 => ⟨S16384x24, .f32⟩
  | 122 => ⟨S16384x24, .i1⟩
  | 123 => ⟨S_, .f32⟩
  | 124 => ⟨S16384x24, .f32⟩
  | 125 => ⟨S16384x24, .f32⟩
  | 126 => ⟨S16384x24, .f32⟩
  | 127 => ⟨S_, .f32⟩
  | _ => ⟨S1x16384x130, .f32⟩

abbrev hbmTy0_3 (i : Nat) : BufTy := match i % 128 with
  | 0 => ⟨S_, .f32⟩
  | 1 => ⟨S16384x24, .f32⟩
  | 2 => ⟨S16384x24, .f32⟩
  | 3 => ⟨S1x16384x24, .f32⟩
  | 4 => ⟨S16384x24, .f32⟩
  | 5 => ⟨S16384x24, .f32⟩
  | 6 => ⟨S_, .f32⟩
  | 7 => ⟨S16384, .f32⟩
  | 8 => ⟨S16384x1, .f32⟩
  | 9 => ⟨S16384x24, .f32⟩
  | 10 => ⟨S16384x24, .i1⟩
  | 11 => ⟨S24, .i32⟩
  | 12 => ⟨S_, .i32⟩
  | 13 => ⟨S_, .i32⟩
  | 14 => ⟨S16384x24, .i32⟩
  | 15 => ⟨S16384x24, .i32⟩
  | 16 => ⟨S16384x24, .i32⟩
  | 17 => ⟨S_, .i32⟩
  | 18 => ⟨S16384, .i32⟩
  | 19 => ⟨S16384x1, .i32⟩
  | 20 => ⟨S1x24, .i32⟩
  | 21 => ⟨S16384x24, .i32⟩
  | 22 => ⟨S16384x24, .i32⟩
  | 23 => ⟨S16384x24, .i1⟩
  | 24 => ⟨S16384x24, .f32⟩
  | 25 => ⟨S16384x12, .f32⟩
  | 26 => ⟨S16384x12, .f32⟩
  | 27 => ⟨S16384x12, .f32⟩
  | 28 => ⟨S16384x12, .f32⟩
  | 29 => ⟨S1x16384x12, .f32⟩
  | 30 => ⟨S1x16384x12, .f32⟩
  | 31 => ⟨S16384x12, .f32⟩
  | 32 => ⟨S16384x12, .f32⟩
  | 33 => ⟨S1x16384x12, .f32⟩
  | 34 => ⟨S1x16384x12, .f32⟩
  | 35 => ⟨S1x16384x12, .f32⟩
  | 36 => ⟨S1x16384x12, .f32⟩
  | 37 => ⟨S_, .f32⟩
  | 38 => ⟨S_, .f32⟩
  | 39 => ⟨S_, .f32⟩
  | 40 => ⟨S1x16384x12, .f32⟩
  | 41 => ⟨S1x16384x12, .f32⟩
  | 42 => ⟨S_, .f32⟩
  | 43 => ⟨S1x16384x12, .f32⟩
  | 44 => ⟨S1x16384x12, .f32⟩
  | 45 => ⟨S1x16384x12, .f32⟩
  | 46 => ⟨S1x16384x12, .f32⟩
  | 47 => ⟨S_, .f32⟩
  | 48 => ⟨S_, .f32⟩
  | 49 => ⟨S_, .f32⟩
  | 50 => ⟨S1x16384x12, .f32⟩
  | 51 => ⟨S1x16384x12, .f32⟩
  | 52 => ⟨S_, .f32⟩
  | 53 => ⟨S1x16384x12, .f32⟩
  | 54 => ⟨S1x16384x12, .f32⟩
  | 55 => ⟨S16384x130, .f32⟩
  | 56 => ⟨S16384x12, .f32⟩
  | 57 => ⟨S16384x12, .f32⟩
  | 58 => ⟨S16384x154, .f32⟩
  | 59 => ⟨S_, .f32⟩
  | 60 => ⟨S16384x100, .f32⟩
  | 61 => ⟨S_, .f32⟩
  | 62 => ⟨S16384x100, .f32⟩
  | 63 => ⟨S154x400, .f32⟩
  | 64 => ⟨S16384x400, .f32⟩
  | 65 => ⟨S100x400, .f32⟩
  | 66 => ⟨S16384x400, .f32⟩
  | 67 => ⟨S16384x400, .f32⟩
  | 68 => ⟨S1x400, .f32⟩
  | 69 => ⟨S16384x400, .f32⟩
  | 70 => ⟨S16384x400, .f32⟩
  | 71 => ⟨S1x400, .f32⟩
  | 72 => ⟨S16384x400, .f32⟩
  | 73 => ⟨S16384x400, .f32⟩
  | 74 => ⟨S16384x100, .f32⟩
  | 75 => ⟨S16384x100, .f32⟩
  | 76 => ⟨S16384x100, .f32⟩
  | 77 => ⟨S16384x100, .f32⟩
  | 78 => ⟨S16384x100, .f32⟩
  | 79 => ⟨S16384x100, .f32⟩
  | 80 => ⟨S_, .f32⟩
  | 81 => ⟨S16384x100, .f32⟩
  | 82 => ⟨S16384x100, .f32⟩
  | 83 => ⟨S_, .f32⟩
  | 84 => ⟨S16384x100, .f32⟩
  | 85 => ⟨S16384x100, .f32⟩
  | 86 => ⟨S16384x100, .f32⟩
  | 87 => ⟨S16384x100, .f32⟩
  | 88 => ⟨S_, .f32⟩
  | 89 => ⟨S16384x100, .f32⟩
  | 90 => ⟨S16384x100, .f32⟩
  | 91 => ⟨S_, .f32⟩
  | 92 => ⟨S16384x100, .f32⟩
  | 93 => ⟨S16384x100, .f32⟩
  | 94 => ⟨S16384x100, .f32⟩
  | 95 => ⟨S16384x100, .f32⟩
  | 96 => ⟨S16384x100, .f32⟩
  | 97 => ⟨S_, .f32⟩
  | 98 => ⟨S16384x100, .f32⟩
  | 99 => ⟨S16384x100, .f32⟩
  | 100 => ⟨S_, .f32⟩
  | 101 => ⟨S16384x100, .f32⟩
  | 102 => ⟨S16384x100, .f32⟩
  | 103 => ⟨S16384x100, .f32⟩
  | 104 => ⟨S16384x100, .f32⟩
  | 105 => ⟨S16384x100, .f32⟩
  | 106 => ⟨S16384x100, .f32⟩
  | 107 => ⟨S16384x100, .f32⟩
  | 108 => ⟨S100x24, .f32⟩
  | 109 => ⟨S16384x24, .f32⟩
  | 110 => ⟨S1x24, .f32⟩
  | 111 => ⟨S16384x24, .f32⟩
  | 112 => ⟨S16384x24, .f32⟩
  | 113 => ⟨S16384x12, .f32⟩
  | 114 => ⟨S16384x12, .f32⟩
  | 115 => ⟨S16384x24, .f32⟩
  | 116 => ⟨S_, .f32⟩
  | 117 => ⟨S16384x24, .f32⟩
  | 118 => ⟨S16384x24, .f32⟩
  | 119 => ⟨S16384x12, .f32⟩
  | 120 => ⟨S16384x12, .f32⟩
  | 121 => ⟨S16384x24, .f32⟩
  | 122 => ⟨S_, .f32⟩
  | 123 => ⟨S16384x24, .f32⟩
  | 124 => ⟨S16384x24, .f32⟩
  | 125 => ⟨S16384x24, .f32⟩
  | 126 => ⟨S16384x24, .f32⟩
  | 127 => ⟨S16384x24, .f32⟩
  | _ => ⟨S1x16384x130, .f32⟩

abbrev hbmTy0_4 (i : Nat) : BufTy := match i % 128 with
  | 0 => ⟨S_, .f32⟩
  | 1 => ⟨S16384, .f32⟩
  | 2 => ⟨S16384x1, .f32⟩
  | 3 => ⟨S16384x24, .f32⟩
  | 4 => ⟨S16384x24, .f32⟩
  | 5 => ⟨S_, .f32⟩
  | 6 => ⟨S16384x24, .f32⟩
  | 7 => ⟨S16384x24, .i1⟩
  | 8 => ⟨S_, .f32⟩
  | 9 => ⟨S16384x24, .f32⟩
  | 10 => ⟨S16384x24, .f32⟩
  | 11 => ⟨S16384x24, .f32⟩
  | 12 => ⟨S_, .f32⟩
  | 13 => ⟨S_, .f32⟩
  | 14 => ⟨S16384x24, .f32⟩
  | 15 => ⟨S16384x24, .f32⟩
  | 16 => ⟨S1x16384x24, .f32⟩
  | 17 => ⟨S16384x24, .f32⟩
  | 18 => ⟨S16384x24, .f32⟩
  | 19 => ⟨S_, .f32⟩
  | 20 => ⟨S16384, .f32⟩
  | 21 => ⟨S16384x1, .f32⟩
  | 22 => ⟨S16384x24, .f32⟩
  | 23 => ⟨S16384x24, .i1⟩
  | 24 => ⟨S24, .i32⟩
  | 25 => ⟨S_, .i32⟩
  | 26 => ⟨S_, .i32⟩
  | 27 => ⟨S16384x24, .i32⟩
  | 28 => ⟨S16384x24, .i32⟩
  | 29 => ⟨S16384x24, .i32⟩
  | 30 => ⟨S_, .i32⟩
  | 31 => ⟨S16384, .i32⟩
  | 32 => ⟨S16384x1, .i32⟩
  | 33 => ⟨S1x24, .i32⟩
  | 34 => ⟨S16384x24, .i32⟩
  | 35 => ⟨S16384x24, .i32⟩
  | 36 => ⟨S16384x24, .i1⟩
  | 37 => ⟨S16384x24, .f32⟩
  | 38 => ⟨S16384x12, .f32⟩
  | 39 => ⟨S16384x12, .f32⟩
  | 40 => ⟨S16384x12, .f32⟩
  | 41 => ⟨S16384x12, .f32⟩
  | 42 => ⟨S1x16384x12, .f32⟩
  | 43 => ⟨S1x16384x12, .f32⟩
  | 44 => ⟨S16384x12, .f32⟩
  | 45 => ⟨S16384x12, .f32⟩
  | 46 => ⟨S1x16384x12, .f32⟩
  | 47 => ⟨S1x16384x12, .f32⟩
  | 48 => ⟨S1x16384x12, .f32⟩
  | 49 => ⟨S1x16384x12, .f32⟩
  | 50 => ⟨S_, .f32⟩
  | 51 => ⟨S_, .f32⟩
  | 52 => ⟨S_, .f32⟩
  | 53 => ⟨S1x16384x12, .f32⟩
  | 54 => ⟨S1x16384x12, .f32⟩
  | 55 => ⟨S_, .f32⟩
  | 56 => ⟨S1x16384x12, .f32⟩
  | 57 => ⟨S1x16384x12, .f32⟩
  | 58 => ⟨S1x16384x12, .f32⟩
  | 59 => ⟨S1x16384x12, .f32⟩
  | 60 => ⟨S_, .f32⟩
  | 61 => ⟨S_, .f32⟩
  | 62 => ⟨S_, .f32⟩
  | 63 => ⟨S1x16384x12, .f32⟩
  | 64 => ⟨S1x16384x12, .f32⟩
  | 65 => ⟨S_, .f32⟩
  | 66 => ⟨S1x16384x12, .f32⟩
  | 67 => ⟨S1x16384x12, .f32⟩
  | 68 => ⟨S16384x130, .f32⟩
  | 69 => ⟨S16384x12, .f32⟩
  | 70 => ⟨S16384x12, .f32⟩
  | 71 => ⟨S16384x154, .f32⟩
  | 72 => ⟨S_, .f32⟩
  | 73 => ⟨S16384x100, .f32⟩
  | 74 => ⟨S_, .f32⟩
  | 75 => ⟨S16384x100, .f32⟩
  | 76 => ⟨S154x400, .f32⟩
  | 77 => ⟨S16384x400, .f32⟩
  | 78 => ⟨S100x400, .f32⟩
  | 79 => ⟨S16384x400, .f32⟩
  | 80 => ⟨S16384x400, .f32⟩
  | 81 => ⟨S1x400, .f32⟩
  | 82 => ⟨S16384x400, .f32⟩
  | 83 => ⟨S16384x400, .f32⟩
  | 84 => ⟨S1x400, .f32⟩
  | 85 => ⟨S16384x400, .f32⟩
  | 86 => ⟨S16384x400, .f32⟩
  | 87 => ⟨S16384x100, .f32⟩
  | 88 => ⟨S16384x100, .f32⟩
  | 89 => ⟨S16384x100, .f32⟩
  | 90 => ⟨S16384x100, .f32⟩
  | 91 => ⟨S16384x100, .f32⟩
  | 92 => ⟨S16384x100, .f32⟩
  | 93 => ⟨S_, .f32⟩
  | 94 => ⟨S16384x100, .f32⟩
  | 95 => ⟨S16384x100, .f32⟩
  | 96 => ⟨S_, .f32⟩
  | 97 => ⟨S16384x100, .f32⟩
  | 98 => ⟨S16384x100, .f32⟩
  | 99 => ⟨S16384x100, .f32⟩
  | 100 => ⟨S16384x100, .f32⟩
  | 101 => ⟨S_, .f32⟩
  | 102 => ⟨S16384x100, .f32⟩
  | 103 => ⟨S16384x100, .f32⟩
  | 104 => ⟨S_, .f32⟩
  | 105 => ⟨S16384x100, .f32⟩
  | 106 => ⟨S16384x100, .f32⟩
  | 107 => ⟨S16384x100, .f32⟩
  | 108 => ⟨S16384x100, .f32⟩
  | 109 => ⟨S16384x100, .f32⟩
  | 110 => ⟨S_, .f32⟩
  | 111 => ⟨S16384x100, .f32⟩
  | 112 => ⟨S16384x100, .f32⟩
  | 113 => ⟨S_, .f32⟩
  | 114 => ⟨S16384x100, .f32⟩
  | 115 => ⟨S16384x100, .f32⟩
  | 116 => ⟨S16384x100, .f32⟩
  | 117 => ⟨S16384x100, .f32⟩
  | 118 => ⟨S16384x100, .f32⟩
  | 119 => ⟨S16384x100, .f32⟩
  | 120 => ⟨S16384x100, .f32⟩
  | 121 => ⟨S100x24, .f32⟩
  | 122 => ⟨S16384x24, .f32⟩
  | 123 => ⟨S1x24, .f32⟩
  | 124 => ⟨S16384x24, .f32⟩
  | 125 => ⟨S16384x24, .f32⟩
  | 126 => ⟨S16384x12, .f32⟩
  | 127 => ⟨S16384x12, .f32⟩
  | _ => ⟨S1x16384x130, .f32⟩

abbrev hbmTy0_5 (i : Nat) : BufTy := match i % 128 with
  | 0 => ⟨S16384x24, .f32⟩
  | 1 => ⟨S_, .f32⟩
  | 2 => ⟨S16384x24, .f32⟩
  | 3 => ⟨S16384x24, .f32⟩
  | 4 => ⟨S16384x12, .f32⟩
  | 5 => ⟨S16384x12, .f32⟩
  | 6 => ⟨S16384x24, .f32⟩
  | 7 => ⟨S_, .f32⟩
  | 8 => ⟨S16384x24, .f32⟩
  | 9 => ⟨S16384x24, .f32⟩
  | 10 => ⟨S16384x24, .f32⟩
  | 11 => ⟨S16384x24, .f32⟩
  | 12 => ⟨S16384x24, .f32⟩
  | 13 => ⟨S_, .f32⟩
  | 14 => ⟨S16384, .f32⟩
  | 15 => ⟨S16384x1, .f32⟩
  | 16 => ⟨S16384x24, .f32⟩
  | 17 => ⟨S16384x24, .f32⟩
  | 18 => ⟨S_, .f32⟩
  | 19 => ⟨S16384x24, .f32⟩
  | 20 => ⟨S16384x24, .i1⟩
  | 21 => ⟨S_, .f32⟩
  | 22 => ⟨S16384x24, .f32⟩
  | 23 => ⟨S16384x24, .f32⟩
  | 24 => ⟨S16384x24, .f32⟩
  | 25 => ⟨S_, .f32⟩
  | 26 => ⟨S_, .f32⟩
  | 27 => ⟨S16384x24, .f32⟩
  | 28 => ⟨S16384x24, .f32⟩
  | 29 => ⟨S1x16384x24, .f32⟩
  | 30 => ⟨S16384x24, .f32⟩
  | 31 => ⟨S16384x24, .f32⟩
  | 32 => ⟨S_, .f32⟩
  | 33 => ⟨S16384, .f32⟩
  | 34 => ⟨S16384x1, .f32⟩
  | 35 => ⟨S16384x24, .f32⟩
  | 36 => ⟨S16384x24, .i1⟩
  | 37 => ⟨S24, .i32⟩
  | 38 => ⟨S_, .i32⟩
  | 39 => ⟨S_, .i32⟩
  | 40 => ⟨S16384x24, .i32⟩
  | 41 => ⟨S16384x24, .i32⟩
  | 42 => ⟨S16384x24, .i32⟩
  | 43 => ⟨S_, .i32⟩
  | 44 => ⟨S16384, .i32⟩
  | 45 => ⟨S16384x1, .i32⟩
  | 46 => ⟨S1x24, .i32⟩
  | 47 => ⟨S16384x24, .i32⟩
  | 48 => ⟨S16384x24, .i32⟩
  | 49 => ⟨S16384x24, .i1⟩
  | 50 => ⟨S16384x24, .f32⟩
  | 51 => ⟨S16384x12, .f32⟩
  | 52 => ⟨S16384x12, .f32⟩
  | 53 => ⟨S16384x12, .f32⟩
  | 54 => ⟨S16384x12, .f32⟩
  | 55 => ⟨S1x16384x12, .f32⟩
  | 56 => ⟨S1x16384x12, .f32⟩
  | 57 => ⟨S16384x12, .f32⟩
  | 58 => ⟨S16384x12, .f32⟩
  | 59 => ⟨S1x16384x12, .f32⟩
  | 60 => ⟨S1x16384x12, .f32⟩
  | 61 => ⟨S1x16384x12, .f32⟩
  | 62 => ⟨S1x16384x12, .f32⟩
  | 63 => ⟨S_, .f32⟩
  | 64 => ⟨S_, .f32⟩
  | 65 => ⟨S_, .f32⟩
  | 66 => ⟨S1x16384x12, .f32⟩
  | 67 => ⟨S1x16384x12, .f32⟩
  | 68 => ⟨S_, .f32⟩
  | 69 => ⟨S1x16384x12, .f32⟩
  | 70 => ⟨S1x16384x12, .f32⟩
  | 71 => ⟨S1x16384x12, .f32⟩
  | 72 => ⟨S1x16384x12, .f32⟩
  | 73 => ⟨S_, .f32⟩
  | 74 => ⟨S_, .f32⟩
  | 75 => ⟨S_, .f32⟩
  | 76 => ⟨S1x16384x12, .f32⟩
  | 77 => ⟨S1x16384x12, .f32⟩
  | 78 => ⟨S_, .f32⟩
  | 79 => ⟨S1x16384x12, .f32⟩
  | 80 => ⟨S1x16384x12, .f32⟩
  | 81 => ⟨S16384x12, .f32⟩
  | 82 => ⟨S1x16384x24, .f32⟩
  | 83 => ⟨S16384x24, .f32⟩
  | _ => ⟨S1x16384x130, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x16384x130, .f32⟩

abbrev bufTy : (tb : Table) → Fin (tcTables nBuf tb) → BufTy
  | .hbm, ⟨i, _⟩ => hbmTy i
  | _, _ => ⟨S1x16384x130, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_call0_v0 : Ref sig .tc := ⟨.hbm, 102, rfl⟩
abbrev main_call0_v1 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_19 : Ref sig .tc := ⟨.hbm, 139, rfl⟩
abbrev main_cst_20 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_21 : Ref sig .tc := ⟨.hbm, 149, rfl⟩
abbrev main_cst_22 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_23 : Ref sig .tc := ⟨.hbm, 161, rfl⟩
abbrev main_v108 : Ref sig .tc := ⟨.hbm, 162, rfl⟩
abbrev main_cst_24 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_25 : Ref sig .tc := ⟨.hbm, 182, rfl⟩
abbrev main_v127 : Ref sig .tc := ⟨.hbm, 183, rfl⟩
abbrev main_v128 : Ref sig .tc := ⟨.hbm, 184, rfl⟩
abbrev main_cst_26 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_27 : Ref sig .tc := ⟨.hbm, 190, rfl⟩
abbrev main_v133 : Ref sig .tc := ⟨.hbm, 191, rfl⟩
abbrev main_v134 : Ref sig .tc := ⟨.hbm, 192, rfl⟩
abbrev main_cst_28 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_29 : Ref sig .tc := ⟨.hbm, 199, rfl⟩
abbrev main_v140 : Ref sig .tc := ⟨.hbm, 200, rfl⟩
abbrev main_v141 : Ref sig .tc := ⟨.hbm, 201, rfl⟩
abbrev main_cst_30 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_31 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_32 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_33 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_cst_34 : Ref sig .tc := ⟨.hbm, 235, rfl⟩
abbrev main_v171 : Ref sig .tc := ⟨.hbm, 236, rfl⟩
abbrev main_v172 : Ref sig .tc := ⟨.hbm, 237, rfl⟩
abbrev main_cst_35 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_36 : Ref sig .tc := ⟨.hbm, 242, rfl⟩
abbrev main_call5_v0 : Ref sig .tc := ⟨.hbm, 243, rfl⟩
abbrev main_call5_v1 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_37 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_c_38 : Ref sig .tc := ⟨.hbm, 255, rfl⟩
abbrev main_call6_v0 : Ref sig .tc := ⟨.hbm, 256, rfl⟩
abbrev main_call6_v1 : Ref sig .tc := ⟨.hbm, 257, rfl⟩
abbrev main_call6_v2 : Ref sig .tc := ⟨.hbm, 258, rfl⟩
abbrev main_v185 : Ref sig .tc := ⟨.hbm, 259, rfl⟩
abbrev main_c_39 : Ref sig .tc := ⟨.hbm, 260, rfl⟩
abbrev main_v186 : Ref sig .tc := ⟨.hbm, 261, rfl⟩
abbrev main_call7_v0 : Ref sig .tc := ⟨.hbm, 262, rfl⟩
abbrev main_call7_v1 : Ref sig .tc := ⟨.hbm, 263, rfl⟩
abbrev main_call7_v2 : Ref sig .tc := ⟨.hbm, 264, rfl⟩
abbrev main_call7_v3 : Ref sig .tc := ⟨.hbm, 265, rfl⟩
abbrev main_call7_v4 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_cst_40 : Ref sig .tc := ⟨.hbm, 280, rfl⟩
abbrev main_cst_41 : Ref sig .tc := ⟨.hbm, 281, rfl⟩
abbrev main_call8_v0 : Ref sig .tc := ⟨.hbm, 282, rfl⟩
abbrev main_call8_v1 : Ref sig .tc := ⟨.hbm, 283, rfl⟩
abbrev main_call8_v2 : Ref sig .tc := ⟨.hbm, 284, rfl⟩
abbrev main_call8_v3 : Ref sig .tc := ⟨.hbm, 285, rfl⟩
abbrev main_call8_v4 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_cst_42 : Ref sig .tc := ⟨.hbm, 290, rfl⟩
abbrev main_cst_43 : Ref sig .tc := ⟨.hbm, 291, rfl⟩
abbrev main_call9_v0 : Ref sig .tc := ⟨.hbm, 292, rfl⟩
abbrev main_call9_v1 : Ref sig .tc := ⟨.hbm, 293, rfl⟩
abbrev main_call9_v2 : Ref sig .tc := ⟨.hbm, 294, rfl⟩
abbrev main_call9_v3 : Ref sig .tc := ⟨.hbm, 295, rfl⟩
abbrev main_call9_v4 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_cst_44 : Ref sig .tc := ⟨.hbm, 302, rfl⟩
abbrev main_v208 : Ref sig .tc := ⟨.hbm, 303, rfl⟩
abbrev main_cst_45 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_cst_46 : Ref sig .tc := ⟨.hbm, 323, rfl⟩
abbrev main_v227 : Ref sig .tc := ⟨.hbm, 324, rfl⟩
abbrev main_v228 : Ref sig .tc := ⟨.hbm, 325, rfl⟩
abbrev main_cst_47 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_cst_48 : Ref sig .tc := ⟨.hbm, 331, rfl⟩
abbrev main_v233 : Ref sig .tc := ⟨.hbm, 332, rfl⟩
abbrev main_v234 : Ref sig .tc := ⟨.hbm, 333, rfl⟩
abbrev main_cst_49 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_cst_50 : Ref sig .tc := ⟨.hbm, 340, rfl⟩
abbrev main_v240 : Ref sig .tc := ⟨.hbm, 341, rfl⟩
abbrev main_v241 : Ref sig .tc := ⟨.hbm, 342, rfl⟩
abbrev main_cst_51 : Ref sig .tc := ⟨.hbm, 343, rfl⟩
abbrev main_v242 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_cst_52 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_cst_53 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_cst_54 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_cst_55 : Ref sig .tc := ⟨.hbm, 376, rfl⟩
abbrev main_v271 : Ref sig .tc := ⟨.hbm, 377, rfl⟩
abbrev main_v272 : Ref sig .tc := ⟨.hbm, 378, rfl⟩
abbrev main_cst_56 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_cst_57 : Ref sig .tc := ⟨.hbm, 383, rfl⟩
abbrev main_call10_v0 : Ref sig .tc := ⟨.hbm, 384, rfl⟩
abbrev main_call10_v1 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_cst_58 : Ref sig .tc := ⟨.hbm, 390, rfl⟩
abbrev main_v280 : Ref sig .tc := ⟨.hbm, 391, rfl⟩
abbrev main_v281 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_c_59 : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_v285 : Ref sig .tc := ⟨.hbm, 400, rfl⟩
abbrev main_c_60 : Ref sig .tc := ⟨.hbm, 401, rfl⟩
abbrev main_v286 : Ref sig .tc := ⟨.hbm, 402, rfl⟩
abbrev main_call12_v0 : Ref sig .tc := ⟨.hbm, 403, rfl⟩
abbrev main_call12_v1 : Ref sig .tc := ⟨.hbm, 404, rfl⟩
abbrev main_call12_v2 : Ref sig .tc := ⟨.hbm, 405, rfl⟩
abbrev main_call12_v3 : Ref sig .tc := ⟨.hbm, 406, rfl⟩
abbrev main_call12_v4 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_v297 : Ref sig .tc := ⟨.hbm, 418, rfl⟩
abbrev main_v298 : Ref sig .tc := ⟨.hbm, 419, rfl⟩
abbrev main_v299 : Ref sig .tc := ⟨.hbm, 420, rfl⟩
abbrev main_cst_61 : Ref sig .tc := ⟨.hbm, 421, rfl⟩
abbrev main_cst_62 : Ref sig .tc := ⟨.hbm, 422, rfl⟩
abbrev main_call13_v0 : Ref sig .tc := ⟨.hbm, 423, rfl⟩
abbrev main_call13_v1 : Ref sig .tc := ⟨.hbm, 424, rfl⟩
abbrev main_call13_v2 : Ref sig .tc := ⟨.hbm, 425, rfl⟩
abbrev main_call13_v3 : Ref sig .tc := ⟨.hbm, 426, rfl⟩
abbrev main_call13_v4 : Ref sig .tc := ⟨.hbm, 427, rfl⟩
abbrev main_v300 : Ref sig .tc := ⟨.hbm, 428, rfl⟩
abbrev main_v301 : Ref sig .tc := ⟨.hbm, 429, rfl⟩
abbrev main_v302 : Ref sig .tc := ⟨.hbm, 430, rfl⟩
abbrev main_cst_63 : Ref sig .tc := ⟨.hbm, 431, rfl⟩
abbrev main_cst_64 : Ref sig .tc := ⟨.hbm, 432, rfl⟩
abbrev main_call14_v0 : Ref sig .tc := ⟨.hbm, 433, rfl⟩
abbrev main_call14_v1 : Ref sig .tc := ⟨.hbm, 434, rfl⟩
abbrev main_call14_v2 : Ref sig .tc := ⟨.hbm, 435, rfl⟩
abbrev main_call14_v3 : Ref sig .tc := ⟨.hbm, 436, rfl⟩
abbrev main_call14_v4 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_v306 : Ref sig .tc := ⟨.hbm, 441, rfl⟩
abbrev main_v307 : Ref sig .tc := ⟨.hbm, 442, rfl⟩
abbrev main_cst_65 : Ref sig .tc := ⟨.hbm, 443, rfl⟩
abbrev main_v308 : Ref sig .tc := ⟨.hbm, 444, rfl⟩
abbrev main_cst_66 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_v315 : Ref sig .tc := ⟨.hbm, 452, rfl⟩
abbrev main_v316 : Ref sig .tc := ⟨.hbm, 453, rfl⟩
abbrev main_v317 : Ref sig .tc := ⟨.hbm, 454, rfl⟩
abbrev main_v318 : Ref sig .tc := ⟨.hbm, 455, rfl⟩
abbrev main_v319 : Ref sig .tc := ⟨.hbm, 456, rfl⟩
abbrev main_v320 : Ref sig .tc := ⟨.hbm, 457, rfl⟩
abbrev main_v321 : Ref sig .tc := ⟨.hbm, 458, rfl⟩
abbrev main_v322 : Ref sig .tc := ⟨.hbm, 459, rfl⟩
abbrev main_v323 : Ref sig .tc := ⟨.hbm, 460, rfl⟩
abbrev main_v324 : Ref sig .tc := ⟨.hbm, 461, rfl⟩
abbrev main_v325 : Ref sig .tc := ⟨.hbm, 462, rfl⟩
abbrev main_v326 : Ref sig .tc := ⟨.hbm, 463, rfl⟩
abbrev main_cst_67 : Ref sig .tc := ⟨.hbm, 464, rfl⟩
abbrev main_v327 : Ref sig .tc := ⟨.hbm, 465, rfl⟩
abbrev main_v328 : Ref sig .tc := ⟨.hbm, 466, rfl⟩
abbrev main_cst_68 : Ref sig .tc := ⟨.hbm, 467, rfl⟩
abbrev main_v329 : Ref sig .tc := ⟨.hbm, 468, rfl⟩
abbrev main_v330 : Ref sig .tc := ⟨.hbm, 469, rfl⟩
abbrev main_v331 : Ref sig .tc := ⟨.hbm, 470, rfl⟩
abbrev main_v332 : Ref sig .tc := ⟨.hbm, 471, rfl⟩
abbrev main_cst_69 : Ref sig .tc := ⟨.hbm, 472, rfl⟩
abbrev main_v333 : Ref sig .tc := ⟨.hbm, 473, rfl⟩
abbrev main_v334 : Ref sig .tc := ⟨.hbm, 474, rfl⟩
abbrev main_cst_70 : Ref sig .tc := ⟨.hbm, 475, rfl⟩
abbrev main_v335 : Ref sig .tc := ⟨.hbm, 476, rfl⟩
abbrev main_v336 : Ref sig .tc := ⟨.hbm, 477, rfl⟩
abbrev main_v337 : Ref sig .tc := ⟨.hbm, 478, rfl⟩
abbrev main_v338 : Ref sig .tc := ⟨.hbm, 479, rfl⟩
abbrev main_v339 : Ref sig .tc := ⟨.hbm, 480, rfl⟩
abbrev main_cst_71 : Ref sig .tc := ⟨.hbm, 481, rfl⟩
abbrev main_v340 : Ref sig .tc := ⟨.hbm, 482, rfl⟩
abbrev main_v341 : Ref sig .tc := ⟨.hbm, 483, rfl⟩
abbrev main_cst_72 : Ref sig .tc := ⟨.hbm, 484, rfl⟩
abbrev main_v342 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_v351 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_cst_73 : Ref sig .tc := ⟨.hbm, 500, rfl⟩
abbrev main_v357 : Ref sig .tc := ⟨.hbm, 501, rfl⟩
abbrev main_v358 : Ref sig .tc := ⟨.hbm, 502, rfl⟩
abbrev main_v359 : Ref sig .tc := ⟨.hbm, 503, rfl⟩
abbrev main_v360 : Ref sig .tc := ⟨.hbm, 504, rfl⟩
abbrev main_v361 : Ref sig .tc := ⟨.hbm, 505, rfl⟩
abbrev main_cst_74 : Ref sig .tc := ⟨.hbm, 506, rfl⟩
abbrev main_v362 : Ref sig .tc := ⟨.hbm, 507, rfl⟩
abbrev main_v363 : Ref sig .tc := ⟨.hbm, 508, rfl⟩
abbrev main_v364 : Ref sig .tc := ⟨.hbm, 509, rfl⟩
abbrev main_v365 : Ref sig .tc := ⟨.hbm, 510, rfl⟩
abbrev main_v366 : Ref sig .tc := ⟨.hbm, 511, rfl⟩
abbrev main_cst_75 : Ref sig .tc := ⟨.hbm, 512, rfl⟩
abbrev main_v367 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_cst_76 : Ref sig .tc := ⟨.hbm, 517, rfl⟩
abbrev main_v371 : Ref sig .tc := ⟨.hbm, 518, rfl⟩
abbrev main_v372 : Ref sig .tc := ⟨.hbm, 519, rfl⟩
abbrev main_cst_77 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_cst_78 : Ref sig .tc := ⟨.hbm, 524, rfl⟩
abbrev main_call15_v0 : Ref sig .tc := ⟨.hbm, 525, rfl⟩
abbrev main_call15_v1 : Ref sig .tc := ⟨.hbm, 526, rfl⟩
abbrev main_v376 : Ref sig .tc := ⟨.hbm, 527, rfl⟩
abbrev main_v377 : Ref sig .tc := ⟨.hbm, 528, rfl⟩
abbrev main_v378 : Ref sig .tc := ⟨.hbm, 529, rfl⟩
abbrev main_v379 : Ref sig .tc := ⟨.hbm, 530, rfl⟩
abbrev main_cst_79 : Ref sig .tc := ⟨.hbm, 531, rfl⟩
abbrev main_v380 : Ref sig .tc := ⟨.hbm, 532, rfl⟩
abbrev main_v381 : Ref sig .tc := ⟨.hbm, 533, rfl⟩
abbrev main_v382 : Ref sig .tc := ⟨.hbm, 534, rfl⟩
abbrev main_v383 : Ref sig .tc := ⟨.hbm, 535, rfl⟩
abbrev main_v384 : Ref sig .tc := ⟨.hbm, 536, rfl⟩
abbrev main_c_80 : Ref sig .tc := ⟨.hbm, 537, rfl⟩
abbrev main_call16_v0 : Ref sig .tc := ⟨.hbm, 538, rfl⟩
abbrev main_call16_v1 : Ref sig .tc := ⟨.hbm, 539, rfl⟩
abbrev main_call16_v2 : Ref sig .tc := ⟨.hbm, 540, rfl⟩
abbrev main_v385 : Ref sig .tc := ⟨.hbm, 541, rfl⟩
abbrev main_c_81 : Ref sig .tc := ⟨.hbm, 542, rfl⟩
abbrev main_v386 : Ref sig .tc := ⟨.hbm, 543, rfl⟩
abbrev main_call17_v0 : Ref sig .tc := ⟨.hbm, 544, rfl⟩
abbrev main_call17_v1 : Ref sig .tc := ⟨.hbm, 545, rfl⟩
abbrev main_call17_v2 : Ref sig .tc := ⟨.hbm, 546, rfl⟩
abbrev main_call17_v3 : Ref sig .tc := ⟨.hbm, 547, rfl⟩
abbrev main_call17_v4 : Ref sig .tc := ⟨.hbm, 548, rfl⟩
abbrev main_v387 : Ref sig .tc := ⟨.hbm, 549, rfl⟩
abbrev main_v388 : Ref sig .tc := ⟨.hbm, 550, rfl⟩
abbrev main_v389 : Ref sig .tc := ⟨.hbm, 551, rfl⟩
abbrev main_v390 : Ref sig .tc := ⟨.hbm, 552, rfl⟩
abbrev main_v391 : Ref sig .tc := ⟨.hbm, 553, rfl⟩
abbrev main_v392 : Ref sig .tc := ⟨.hbm, 554, rfl⟩
abbrev main_v393 : Ref sig .tc := ⟨.hbm, 555, rfl⟩
abbrev main_v394 : Ref sig .tc := ⟨.hbm, 556, rfl⟩
abbrev main_v395 : Ref sig .tc := ⟨.hbm, 557, rfl⟩
abbrev main_v396 : Ref sig .tc := ⟨.hbm, 558, rfl⟩
abbrev main_v397 : Ref sig .tc := ⟨.hbm, 559, rfl⟩
abbrev main_v398 : Ref sig .tc := ⟨.hbm, 560, rfl⟩
abbrev main_v399 : Ref sig .tc := ⟨.hbm, 561, rfl⟩
abbrev main_cst_82 : Ref sig .tc := ⟨.hbm, 562, rfl⟩
abbrev main_cst_83 : Ref sig .tc := ⟨.hbm, 563, rfl⟩
abbrev main_call18_v0 : Ref sig .tc := ⟨.hbm, 564, rfl⟩
abbrev main_call18_v1 : Ref sig .tc := ⟨.hbm, 565, rfl⟩
abbrev main_call18_v2 : Ref sig .tc := ⟨.hbm, 566, rfl⟩
abbrev main_call18_v3 : Ref sig .tc := ⟨.hbm, 567, rfl⟩
abbrev main_call18_v4 : Ref sig .tc := ⟨.hbm, 568, rfl⟩
abbrev main_v400 : Ref sig .tc := ⟨.hbm, 569, rfl⟩
abbrev main_v401 : Ref sig .tc := ⟨.hbm, 570, rfl⟩
abbrev main_v402 : Ref sig .tc := ⟨.hbm, 571, rfl⟩
abbrev main_cst_84 : Ref sig .tc := ⟨.hbm, 572, rfl⟩
abbrev main_cst_85 : Ref sig .tc := ⟨.hbm, 573, rfl⟩
abbrev main_call19_v0 : Ref sig .tc := ⟨.hbm, 574, rfl⟩
abbrev main_call19_v1 : Ref sig .tc := ⟨.hbm, 575, rfl⟩
abbrev main_call19_v2 : Ref sig .tc := ⟨.hbm, 576, rfl⟩
abbrev main_call19_v3 : Ref sig .tc := ⟨.hbm, 577, rfl⟩
abbrev main_call19_v4 : Ref sig .tc := ⟨.hbm, 578, rfl⟩
abbrev main_v403 : Ref sig .tc := ⟨.hbm, 579, rfl⟩
abbrev main_v404 : Ref sig .tc := ⟨.hbm, 580, rfl⟩
abbrev main_v405 : Ref sig .tc := ⟨.hbm, 581, rfl⟩
abbrev main_v406 : Ref sig .tc := ⟨.hbm, 582, rfl⟩
abbrev main_v407 : Ref sig .tc := ⟨.hbm, 583, rfl⟩
abbrev main_cst_86 : Ref sig .tc := ⟨.hbm, 584, rfl⟩
abbrev main_v408 : Ref sig .tc := ⟨.hbm, 585, rfl⟩
abbrev main_cst_87 : Ref sig .tc := ⟨.hbm, 586, rfl⟩
abbrev main_v409 : Ref sig .tc := ⟨.hbm, 587, rfl⟩
abbrev main_v410 : Ref sig .tc := ⟨.hbm, 588, rfl⟩
abbrev main_v411 : Ref sig .tc := ⟨.hbm, 589, rfl⟩
abbrev main_v412 : Ref sig .tc := ⟨.hbm, 590, rfl⟩
abbrev main_v413 : Ref sig .tc := ⟨.hbm, 591, rfl⟩
abbrev main_v414 : Ref sig .tc := ⟨.hbm, 592, rfl⟩
abbrev main_v415 : Ref sig .tc := ⟨.hbm, 593, rfl⟩
abbrev main_v416 : Ref sig .tc := ⟨.hbm, 594, rfl⟩
abbrev main_v417 : Ref sig .tc := ⟨.hbm, 595, rfl⟩
abbrev main_v418 : Ref sig .tc := ⟨.hbm, 596, rfl⟩
abbrev main_v419 : Ref sig .tc := ⟨.hbm, 597, rfl⟩
abbrev main_v420 : Ref sig .tc := ⟨.hbm, 598, rfl⟩
abbrev main_v421 : Ref sig .tc := ⟨.hbm, 599, rfl⟩
abbrev main_v422 : Ref sig .tc := ⟨.hbm, 600, rfl⟩
abbrev main_v423 : Ref sig .tc := ⟨.hbm, 601, rfl⟩
abbrev main_v424 : Ref sig .tc := ⟨.hbm, 602, rfl⟩
abbrev main_v425 : Ref sig .tc := ⟨.hbm, 603, rfl⟩
abbrev main_v426 : Ref sig .tc := ⟨.hbm, 604, rfl⟩
abbrev main_cst_88 : Ref sig .tc := ⟨.hbm, 605, rfl⟩
abbrev main_v427 : Ref sig .tc := ⟨.hbm, 606, rfl⟩
abbrev main_v428 : Ref sig .tc := ⟨.hbm, 607, rfl⟩
abbrev main_cst_89 : Ref sig .tc := ⟨.hbm, 608, rfl⟩
abbrev main_v429 : Ref sig .tc := ⟨.hbm, 609, rfl⟩
abbrev main_v430 : Ref sig .tc := ⟨.hbm, 610, rfl⟩
abbrev main_v431 : Ref sig .tc := ⟨.hbm, 611, rfl⟩
abbrev main_v432 : Ref sig .tc := ⟨.hbm, 612, rfl⟩
abbrev main_cst_90 : Ref sig .tc := ⟨.hbm, 613, rfl⟩
abbrev main_v433 : Ref sig .tc := ⟨.hbm, 614, rfl⟩
abbrev main_v434 : Ref sig .tc := ⟨.hbm, 615, rfl⟩
abbrev main_cst_91 : Ref sig .tc := ⟨.hbm, 616, rfl⟩
abbrev main_v435 : Ref sig .tc := ⟨.hbm, 617, rfl⟩
abbrev main_v436 : Ref sig .tc := ⟨.hbm, 618, rfl⟩
abbrev main_v437 : Ref sig .tc := ⟨.hbm, 619, rfl⟩
abbrev main_v438 : Ref sig .tc := ⟨.hbm, 620, rfl⟩
abbrev main_v439 : Ref sig .tc := ⟨.hbm, 621, rfl⟩
abbrev main_cst_92 : Ref sig .tc := ⟨.hbm, 622, rfl⟩
abbrev main_v440 : Ref sig .tc := ⟨.hbm, 623, rfl⟩
abbrev main_v441 : Ref sig .tc := ⟨.hbm, 624, rfl⟩
abbrev main_cst_93 : Ref sig .tc := ⟨.hbm, 625, rfl⟩
abbrev main_v442 : Ref sig .tc := ⟨.hbm, 626, rfl⟩
abbrev main_v443 : Ref sig .tc := ⟨.hbm, 627, rfl⟩
abbrev main_v444 : Ref sig .tc := ⟨.hbm, 628, rfl⟩
abbrev main_v445 : Ref sig .tc := ⟨.hbm, 629, rfl⟩
abbrev main_v446 : Ref sig .tc := ⟨.hbm, 630, rfl⟩
abbrev main_v447 : Ref sig .tc := ⟨.hbm, 631, rfl⟩
abbrev main_v448 : Ref sig .tc := ⟨.hbm, 632, rfl⟩
abbrev main_v449 : Ref sig .tc := ⟨.hbm, 633, rfl⟩
abbrev main_v450 : Ref sig .tc := ⟨.hbm, 634, rfl⟩
abbrev main_v451 : Ref sig .tc := ⟨.hbm, 635, rfl⟩
abbrev main_v452 : Ref sig .tc := ⟨.hbm, 636, rfl⟩
abbrev main_v453 : Ref sig .tc := ⟨.hbm, 637, rfl⟩
abbrev main_v454 : Ref sig .tc := ⟨.hbm, 638, rfl⟩
abbrev main_v455 : Ref sig .tc := ⟨.hbm, 639, rfl⟩
abbrev main_v456 : Ref sig .tc := ⟨.hbm, 640, rfl⟩
abbrev main_cst_94 : Ref sig .tc := ⟨.hbm, 641, rfl⟩
abbrev main_v457 : Ref sig .tc := ⟨.hbm, 642, rfl⟩
abbrev main_v458 : Ref sig .tc := ⟨.hbm, 643, rfl⟩
abbrev main_v459 : Ref sig .tc := ⟨.hbm, 644, rfl⟩
abbrev main_v460 : Ref sig .tc := ⟨.hbm, 645, rfl⟩
abbrev main_v461 : Ref sig .tc := ⟨.hbm, 646, rfl⟩
abbrev main_cst_95 : Ref sig .tc := ⟨.hbm, 647, rfl⟩
abbrev main_v462 : Ref sig .tc := ⟨.hbm, 648, rfl⟩
abbrev main_v463 : Ref sig .tc := ⟨.hbm, 649, rfl⟩
abbrev main_v464 : Ref sig .tc := ⟨.hbm, 650, rfl⟩
abbrev main_v465 : Ref sig .tc := ⟨.hbm, 651, rfl⟩
abbrev main_v466 : Ref sig .tc := ⟨.hbm, 652, rfl⟩
abbrev main_cst_96 : Ref sig .tc := ⟨.hbm, 653, rfl⟩
abbrev main_v467 : Ref sig .tc := ⟨.hbm, 654, rfl⟩
abbrev main_v468 : Ref sig .tc := ⟨.hbm, 655, rfl⟩
abbrev main_v469 : Ref sig .tc := ⟨.hbm, 656, rfl⟩
abbrev main_v470 : Ref sig .tc := ⟨.hbm, 657, rfl⟩
abbrev main_cst_97 : Ref sig .tc := ⟨.hbm, 658, rfl⟩
abbrev main_v471 : Ref sig .tc := ⟨.hbm, 659, rfl⟩
abbrev main_v472 : Ref sig .tc := ⟨.hbm, 660, rfl⟩
abbrev main_cst_98 : Ref sig .tc := ⟨.hbm, 661, rfl⟩
abbrev main_v473 : Ref sig .tc := ⟨.hbm, 662, rfl⟩
abbrev main_v474 : Ref sig .tc := ⟨.hbm, 663, rfl⟩
abbrev main_v475 : Ref sig .tc := ⟨.hbm, 664, rfl⟩
abbrev main_cst_99 : Ref sig .tc := ⟨.hbm, 665, rfl⟩
abbrev main_call20_v0 : Ref sig .tc := ⟨.hbm, 666, rfl⟩
abbrev main_call20_v1 : Ref sig .tc := ⟨.hbm, 667, rfl⟩
abbrev main_v476 : Ref sig .tc := ⟨.hbm, 668, rfl⟩
abbrev main_v477 : Ref sig .tc := ⟨.hbm, 669, rfl⟩
abbrev main_v478 : Ref sig .tc := ⟨.hbm, 670, rfl⟩
abbrev main_v479 : Ref sig .tc := ⟨.hbm, 671, rfl⟩
abbrev main_cst_100 : Ref sig .tc := ⟨.hbm, 672, rfl⟩
abbrev main_v480 : Ref sig .tc := ⟨.hbm, 673, rfl⟩
abbrev main_v481 : Ref sig .tc := ⟨.hbm, 674, rfl⟩
abbrev main_v482 : Ref sig .tc := ⟨.hbm, 675, rfl⟩
abbrev main_v483 : Ref sig .tc := ⟨.hbm, 676, rfl⟩
abbrev main_v484 : Ref sig .tc := ⟨.hbm, 677, rfl⟩
abbrev main_c_101 : Ref sig .tc := ⟨.hbm, 678, rfl⟩
abbrev main_call21_v0 : Ref sig .tc := ⟨.hbm, 679, rfl⟩
abbrev main_call21_v1 : Ref sig .tc := ⟨.hbm, 680, rfl⟩
abbrev main_call21_v2 : Ref sig .tc := ⟨.hbm, 681, rfl⟩
abbrev main_v485 : Ref sig .tc := ⟨.hbm, 682, rfl⟩
abbrev main_c_102 : Ref sig .tc := ⟨.hbm, 683, rfl⟩
abbrev main_v486 : Ref sig .tc := ⟨.hbm, 684, rfl⟩
abbrev main_call22_v0 : Ref sig .tc := ⟨.hbm, 685, rfl⟩
abbrev main_call22_v1 : Ref sig .tc := ⟨.hbm, 686, rfl⟩
abbrev main_call22_v2 : Ref sig .tc := ⟨.hbm, 687, rfl⟩
abbrev main_call22_v3 : Ref sig .tc := ⟨.hbm, 688, rfl⟩
abbrev main_call22_v4 : Ref sig .tc := ⟨.hbm, 689, rfl⟩
abbrev main_v487 : Ref sig .tc := ⟨.hbm, 690, rfl⟩
abbrev main_v488 : Ref sig .tc := ⟨.hbm, 691, rfl⟩
abbrev main_v489 : Ref sig .tc := ⟨.hbm, 692, rfl⟩
abbrev main_v490 : Ref sig .tc := ⟨.hbm, 693, rfl⟩
abbrev main_v491 : Ref sig .tc := ⟨.hbm, 694, rfl⟩
abbrev main_v492 : Ref sig .tc := ⟨.hbm, 695, rfl⟩
abbrev main_v493 : Ref sig .tc := ⟨.hbm, 696, rfl⟩
abbrev main_v494 : Ref sig .tc := ⟨.hbm, 697, rfl⟩
abbrev main_v495 : Ref sig .tc := ⟨.hbm, 698, rfl⟩
abbrev main_v496 : Ref sig .tc := ⟨.hbm, 699, rfl⟩
abbrev main_v497 : Ref sig .tc := ⟨.hbm, 700, rfl⟩
abbrev main_v498 : Ref sig .tc := ⟨.hbm, 701, rfl⟩
abbrev main_v499 : Ref sig .tc := ⟨.hbm, 702, rfl⟩
abbrev main_cst_103 : Ref sig .tc := ⟨.hbm, 703, rfl⟩
abbrev main_cst_104 : Ref sig .tc := ⟨.hbm, 704, rfl⟩
abbrev main_call23_v0 : Ref sig .tc := ⟨.hbm, 705, rfl⟩
abbrev main_call23_v1 : Ref sig .tc := ⟨.hbm, 706, rfl⟩
abbrev main_call23_v2 : Ref sig .tc := ⟨.hbm, 707, rfl⟩
abbrev main_call23_v3 : Ref sig .tc := ⟨.hbm, 708, rfl⟩
abbrev main_call23_v4 : Ref sig .tc := ⟨.hbm, 709, rfl⟩
abbrev main_v500 : Ref sig .tc := ⟨.hbm, 710, rfl⟩
abbrev main_v501 : Ref sig .tc := ⟨.hbm, 711, rfl⟩
abbrev main_v502 : Ref sig .tc := ⟨.hbm, 712, rfl⟩
abbrev main_cst_105 : Ref sig .tc := ⟨.hbm, 713, rfl⟩
abbrev main_cst_106 : Ref sig .tc := ⟨.hbm, 714, rfl⟩
abbrev main_call24_v0 : Ref sig .tc := ⟨.hbm, 715, rfl⟩
abbrev main_call24_v1 : Ref sig .tc := ⟨.hbm, 716, rfl⟩
abbrev main_call24_v2 : Ref sig .tc := ⟨.hbm, 717, rfl⟩
abbrev main_call24_v3 : Ref sig .tc := ⟨.hbm, 718, rfl⟩
abbrev main_call24_v4 : Ref sig .tc := ⟨.hbm, 719, rfl⟩
abbrev main_v503 : Ref sig .tc := ⟨.hbm, 720, rfl⟩
abbrev main_v504 : Ref sig .tc := ⟨.hbm, 721, rfl⟩
abbrev main_v505 : Ref sig .tc := ⟨.hbm, 722, rfl⟩
abbrev main_v506 : Ref sig .tc := ⟨.hbm, 723, rfl⟩

abbrev nD : Nat := 1
abbrev τ : Topo := Topo.v7x

variable {F : FTy → Type} [FloatOps F]
-- ==== Proof.Scalars.lean ====
/-
  The scalar facts over the extended reals: the half-angle form of the logistic function, bounds on the two squashing
  functions, the constants, and the first place where 24 numbers attain their maximum, as each program finds it.
-/
module

public import Idealize.ShloMosaic.Lib.Pointwise

@[expose] public section

noncomputable section

namespace Cert.Row

open Idealize.ShloMosaic

/-! ## Constants -/

theorem half : Ideal.ofBits .f32 0x3F000000#32 = ((1 / 2 : ℝ) : EReal) := by
  simp [Ideal.ofBits, Ideal.ieee, -EReal.coe_mul]; norm_num

theorem thirtytwo : Ideal.ofBits .f32 0x42000000#32 = ((32 : ℝ) : EReal) := by
  simp [Ideal.ofBits, Ideal.ieee, -EReal.coe_mul]; norm_num

theorem bottom : Ideal.ofBits .f32 0xFF800000#32 = ⊥ := by
  simp [Ideal.ofBits, Ideal.ieee, -EReal.coe_mul]

/-- The floor under the probabilities before their logarithm: about 1e-30. -/
def floorR : ℝ := 10633824 * (2 : ℝ) ^ (-123 : ℤ)

theorem floor_eq : Ideal.ofBits .f32 0x0DA24260#32 = ((floorR : ℝ) : EReal) := by
  simp [Ideal.ofBits, Ideal.ieee, floorR, -EReal.coe_mul]

/-- `-1e9`, a masked note's score. -/
abbrev masked : EReal := Ideal.ofBits .f32 0xCE6E6B28#32

/-! ## The logistic function -/

/-- `1 / (1 + exp(-g))`. -/
def sigma (g : EReal) : EReal := Ideal.div 1 (1 + Ideal.exp (-g))

theorem sigma_coe (r : ℝ) : sigma r = (((1 + Real.exp (-r))⁻¹ : ℝ) : EReal) := Ideal.logistic_coe r

theorem sigma_half (g : EReal) :
    Ideal.tanh (g * Ideal.ofBits .f32 0x3F000000#32) * Ideal.ofBits .f32 0x3F000000#32 + Ideal.ofBits .f32 0x3F000000#32 = sigma g := by
  rw [half]
  induction g with
  | bot =>
    rw [show sigma ⊥ = 0 from Ideal.logistic_bot, EReal.bot_mul_coe_of_pos (by norm_num), Ideal.tanh_bot]
    rw [show (-1 : EReal) = ((-1 : ℝ) : EReal) by norm_num, ← EReal.coe_mul, ← EReal.coe_add]
    norm_num
  | top =>
    rw [show sigma ⊤ = 1 from Ideal.logistic_top, EReal.top_mul_coe_of_pos (by norm_num), Ideal.tanh_top]
    rw [show (1 : EReal) = ((1 : ℝ) : EReal) by norm_num, ← EReal.coe_mul, ← EReal.coe_add]
    norm_num
  | coe r =>
    rw [sigma_coe, ← EReal.coe_mul, Ideal.tanh_coe, ← EReal.coe_mul, ← EReal.coe_add]
    congr 1
    rw [Real.tanh_eq]
    have h1 := Real.exp_pos (r * (1 / 2))
    have h2 : Real.exp (-(r * (1 / 2))) = (Real.exp (r * (1 / 2)))⁻¹ := Real.exp_neg _
    have h3 : Real.exp (-r) = (Real.exp (r * (1 / 2)))⁻¹ * (Real.exp (r * (1 / 2)))⁻¹ := by
      rw [← Real.exp_neg, ← Real.exp_add]; congr 1; ring
    rw [h2, h3]
    field_simp
    ring

/-- A number of magnitude at most 1. -/
def Unit1 (x : EReal) : Prop := ∃ r : ℝ, x = r ∧ |r| ≤ 1

theorem unit1_sigma (g : EReal) : Unit1 (sigma g) := by
  induction g with
  | bot => exact ⟨0, Ideal.logistic_bot, by norm_num⟩
  | top => exact ⟨1, by rw [show sigma ⊤ = 1 from Ideal.logistic_top]; rfl, by norm_num⟩
  | coe r =>
    refine ⟨_, sigma_coe r, ?_⟩
    have h := Real.exp_pos (-r)
    rw [abs_of_pos (by positivity)]
    exact inv_le_one_of_one_le₀ (by linarith)

theorem unit1_tanh (g : EReal) : Unit1 (Ideal.tanh g) := by
  induction g with
  | bot => exact ⟨-1, by rw [Ideal.tanh_bot]; norm_num, by norm_num⟩
  | top => exact ⟨1, by rw [Ideal.tanh_top]; rfl, by norm_num⟩
  | coe r => exact ⟨_, Ideal.tanh_coe r, (Real.abs_tanh_lt_one r).le⟩

theorem Unit1.mul {x y : EReal} (hx : Unit1 x) (hy : Unit1 y) : Unit1 (x * y) := by
  obtain ⟨a, rfl, ha⟩ := hx
  obtain ⟨b, rfl, hb⟩ := hy
  exact ⟨a * b, (EReal.coe_mul a b).symm, by rw [abs_mul]; exact mul_le_one₀ ha (abs_nonneg _) hb⟩

/-! ## Sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_half {ι : Type*} (s : Finset ι) (f : ι → EReal) (c : ℝ) (hc : 0 ≤ c) : (∑ i ∈ s, f i) * (c : EReal) = ∑ i ∈ s, f i * c := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-! ## The first place of the maximum -/

/-- Place `n` attains the maximum of `s`. -/
def Attains (s : Fin 24 → EReal) (n : Fin 24) : Prop := ∀ m, s m ≤ s n

theorem attains_nonempty (s : Fin 24 → EReal) : ∃ n, Attains s n := by
  obtain ⟨n, -, h⟩ := Finset.exists_max_image (Finset.univ : Finset (Fin 24)) s ⟨0, Finset.mem_univ 0⟩
  exact ⟨n, fun m => h m (Finset.mem_univ m)⟩

open Classical in
/-- The first place that attains the maximum of `s`. -/
def pick (s : Fin 24 → EReal) : Fin 24 := Fin.find (Attains s) (attains_nonempty s)

theorem pick_attains (s : Fin 24 → EReal) : Attains s (pick s) := by
  classical
  exact Fin.find_spec (attains_nonempty s)

theorem pick_le (s : Fin 24 → EReal) (n : Fin 24) (h : Attains s n) : pick s ≤ n := by
  classical
  exact Fin.find_le_of_pos (attains_nonempty s) h

theorem fold_max_le_iff (s : Fin 24 → EReal) (n : Fin 24) :
    Finset.fold max (Ideal.ofBits .f32 0xFF800000#32) s Finset.univ ≤ s n ↔ Attains s n := by
  rw [bottom, Finset.fold_max_le]
  exact ⟨fun h m => h.2 m (Finset.mem_univ m), fun h => ⟨bot_le, fun m _ => h m⟩⟩

theorem flag_eq (p : Prop) [Decidable p] :
    (FloatOps.sitofp FTy.f32 (BitVec.setWidth 32 (BitVec.ofBool (decide p))) : Ideal .f32) = if p then 1 else 0 := by
  show (((BitVec.setWidth 32 (BitVec.ofBool (decide p))).toInt : ℝ) : EReal) = _
  by_cases h : p <;> simp [h]

theorem uflag_eq (b : Bool) : (FloatOps.uitofp FTy.f32 (BitVec.ofBool b) : Ideal .f32) = if b then 1 else 0 := by
  show (((BitVec.ofBool b).toNat : ℝ) : EReal) = _
  cases b <;> simp

/-- The kernel's one-hot row: a place that attains the maximum and has none before it. -/
theorem first_eq (s : Fin 24 → EReal) (n : Fin 24) (p : Fin 24 → Prop) (hp : ∀ k, p k ↔ Attains s k) [DecidablePred p] :
    (if p n then (1 : EReal) else 0) * (if ∑ k : Fin 24, (if p k then (1 : EReal) else 0) * (if k < n then 1 else 0) = 0 then 1 else 0)
      = if n = pick s then 1 else 0 := by
  have hs : (∑ k : Fin 24, (if p k then (1 : EReal) else 0) * (if k < n then 1 else 0) = 0) ↔ ∀ k, k < n → ¬ p k := by
    rw [Finset.sum_eq_zero_iff_of_nonneg]
    · refine ⟨fun h k hk hpk => ?_, fun h k _ => ?_⟩
      · have := h k (Finset.mem_univ k)
        rw [if_pos hpk, if_pos hk] at this
        norm_num at this
      · by_cases hk : k < n
        · rw [if_neg (h k hk), zero_mul]
        · rw [if_neg hk, mul_zero]
    · intro k _
      split_ifs <;> norm_num
  by_cases hn : n = pick s
  · subst hn
    rw [if_pos ((hp _).2 (pick_attains s)), if_pos (hs.2 fun k hk hpk => absurd (pick_le s k ((hp k).1 hpk)) (not_le.2 hk)),
      if_pos rfl, one_mul]
  · rw [if_neg hn]
    by_cases hpn : p n
    · rw [if_neg (c := _ = _), mul_zero]
      intro h
      have hlt : pick s < n := lt_of_le_of_ne (pick_le s n ((hp n).1 hpn)) (Ne.symm hn)
      exact hs.1 h _ hlt ((hp _).2 (pick_attains s))
    · rw [if_neg hpn, zero_mul]

theorem minsi_toInt (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.1 h)]

theorem small_toInt : ∀ n : Fin 24, (BitVec.ofNat 32 (n : ℕ)).toInt = (n : ℕ) := by decide

/-- The reference's index: the least of the places that attain the maximum. -/
theorem index_eq (s : Fin 24 → EReal) (p : Fin 24 → Prop) (hp : ∀ k, p k ↔ Attains s k) [DecidablePred p] :
    Finset.fold IntOp.minsi (2147483647#32) (fun k : Fin 24 => if p k then BitVec.ofNat 32 (k : ℕ) else 24#32) Finset.univ
      = BitVec.ofNat 32 (pick s : ℕ) := by
  apply BitVec.eq_of_toInt_eq
  rw [← Finset.fold_hom (op' := min) (m := BitVec.toInt) minsi_toInt, small_toInt]
  apply le_antisymm
  · rw [Finset.fold_min_le]
    refine Or.inr ⟨pick s, Finset.mem_univ _, ?_⟩
    rw [if_pos ((hp _).2 (pick_attains s)), small_toInt]
  · rw [Finset.le_fold_min]
    have hb := (pick s).isLt
    refine ⟨?_, fun k _ => ?_⟩
    · rw [show (2147483647#32).toInt = 2147483647 by decide]; omega
    · by_cases hk : p k
      · rw [if_pos hk, small_toInt]
        have := pick_le s k ((hp k).1 hk)
        exact_mod_cast this
      · rw [if_neg hk, show (24#32).toInt = 24 by decide]; omega

theorem small_beq : ∀ a b : Fin 24, (BitVec.ofNat 32 (a : ℕ) == BitVec.ofNat 32 (b : ℕ)) = decide (b = a) := by decide

/-- The reference's one-hot row. -/
theorem onehot_eq (a n : Fin 24) :
    (FloatOps.uitofp FTy.f32 (IntOp.cmpi CmpIPredicate.eq (BitVec.ofNat 32 (a : ℕ)) (BitVec.ofNat 32 (n : ℕ))) : Ideal .f32)
      = if n = a then 1 else 0 := by
  unfold IntOp.cmpi
  rw [uflag_eq]
  show (if (BitVec.ofNat 32 (a : ℕ) == BitVec.ofNat 32 (n : ℕ)) = true then (1 : EReal) else 0) = _
  rw [small_beq]
  simp

end Cert.Row

end
-- ==== Proof.Row.lean ====
/-
  One row of the sampler over the extended reals. A row's state is the set of notes taken so far; a round adds the note
  the row picks and keeps its probability. Both programs are compared with this description, row by row.
-/
module

public import proofs.«01_k».proof.Proof.Scalars

@[expose] public section

noncomputable section

namespace Cert.Row

open Idealize.ShloMosaic

/-- What one row reads: its input, the weights and biases, its noise. -/
structure Data where
  /-- the input -/
  x : Fin 130 → EReal
  /-- the gates' weights -/
  w : Fin 400 → Fin 154 → EReal
  /-- the first bias -/
  bi : Fin 400 → EReal
  /-- the second bias -/
  bh : Fin 400 → EReal
  /-- the output layer's weights -/
  wl : Fin 24 → Fin 100 → EReal
  /-- the output layer's bias -/
  bl : Fin 24 → EReal
  /-- each round's noise -/
  nz : Fin 5 → Fin 24 → EReal

/-- 1 on the set, 0 off it. -/
def ind (S : Finset (Fin 24)) (n : Fin 24) : EReal := if n ∈ S then 1 else 0

/-- The note that shares a voice with `n`. -/
def partner (n : Fin 24) : Fin 24 := n + 12

/-- Neither `n` nor its partner is taken. -/
def Free (S : Finset (Fin 24)) (n : Fin 24) : Prop := n ∉ S ∧ partner n ∉ S

instance (S : Finset (Fin 24)) (n : Fin 24) : Decidable (Free S n) := inferInstanceAs (Decidable (_ ∧ _))

variable (D : Data) (S : Finset (Fin 24))

/-- A gate. -/
def gate (j : Fin 400) : EReal :=
  (∑ k : Fin 130, D.x k * D.w j (k.castLE (by norm_num)) + ∑ k : Fin 24, ind S k * D.w j (Fin.natAdd 130 k)) + (D.bi j + D.bh j)

/-- A hidden cell. -/
def hid (j : Fin 100) : EReal :=
  sigma (gate D S (Fin.natAdd 300 j))
    * Ideal.tanh (sigma (gate D S (j.castLE (by norm_num))) * Ideal.tanh (gate D S ((Fin.natAdd 200 j).castLE (by norm_num))))

/-- A note's logit. -/
def logit (n : Fin 24) : EReal := ∑ j : Fin 100, hid D S j * D.wl n j + D.bl n

/-- A note's weight: the exponential of its logit, 0 where it may not be taken. -/
def mass (n : Fin 24) : EReal := if Free S n then Ideal.exp (logit D S n) else 0

/-- The weights' sum. -/
def total : EReal := ∑ n : Fin 24, mass D S n

/-- A note's probability. -/
def prob (n : Fin 24) : EReal := Ideal.div (mass D S n) (total D S)

/-- A note's score. -/
def score (v : Fin 5) (n : Fin 24) : EReal :=
  (if Free S n then logit D S n - Ideal.log (total D S) else masked) + D.nz v n

/-- The note a round takes. -/
def choice (v : Fin 5) : Fin 24 := pick (score D S v)

/-- The notes taken after `v` rounds. -/
def taken : ℕ → Finset (Fin 24)
  | 0 => ∅
  | v + 1 => insert (choice D (taken v) (Fin.ofNat 5 v)) (taken v)

/-- The probabilities kept after `v` rounds. -/
def kept : ℕ → Fin 24 → EReal
  | 0, _ => 0
  | v + 1, n => kept v n + (if n = choice D (taken D v) (Fin.ofNat 5 v) then 1 else 0) * prob D (taken D v) n

theorem card_taken (v : ℕ) : (taken D v).card ≤ v := by
  induction v with
  | zero => simp [taken]
  | succ v ih => exact (Finset.card_insert_le _ _).trans (Nat.succ_le_succ ih)

theorem partner_partner : ∀ n : Fin 24, partner (partner n) = n := by decide

/-- With fewer than 12 notes taken, some note is free. -/
theorem exists_free (h : S.card ≤ 4) : ∃ n, Free S n := by
  by_contra hno
  push Not at hno
  have hall : ∀ n, n ∈ S ∪ S.image partner := by
    intro n
    by_cases hn : n ∈ S
    · exact Finset.mem_union_left _ hn
    · have hp : partner n ∈ S := by
        by_contra hp
        exact hno n ⟨hn, hp⟩
      exact Finset.mem_union_right _ (Finset.mem_image.2 ⟨_, hp, partner_partner n⟩)
  have h24 : (24 : ℕ) ≤ (S ∪ S.image partner).card := by
    rw [Finset.eq_univ_iff_forall.2 hall]; simp
  have h1 := Finset.card_union_le S (S.image partner)
  have h2 : (S.image partner).card ≤ S.card := Finset.card_image_le
  omega

/-! ## Bounds -/

/-- The output layer is real, every note's weights and bias at most 32 in total magnitude. -/
def Bounded (D : Data) : Prop :=
  ∃ (a : Fin 24 → Fin 100 → ℝ) (b : Fin 24 → ℝ), (∀ n j, D.wl n j = a n j) ∧ (∀ n, D.bl n = b n) ∧
    ∀ n, ∑ j, |a n j| + |b n| ≤ 32

theorem unit1_hid (j : Fin 100) : Unit1 (hid D S j) := (unit1_sigma _).mul (unit1_tanh _)

variable {D}

theorem logit_real (hD : Bounded D) (n : Fin 24) : ∃ l : ℝ, logit D S n = l ∧ |l| ≤ 32 := by
  obtain ⟨a, b, ha, hb, hab⟩ := hD
  choose h hh hle using unit1_hid D S
  refine ⟨∑ j, h j * a n j + b n, ?_, ?_⟩
  · rw [logit, EReal.coe_add, coe_sum, hb]
    congr 1
    exact Finset.sum_congr rfl fun j _ => by rw [hh, ha, EReal.coe_mul]
  · refine (abs_add_le _ _).trans (le_trans (add_le_add (Finset.abs_sum_le_sum_abs _ _) le_rfl) ((hab n).trans' ?_))
    refine add_le_add (Finset.sum_le_sum fun j _ => ?_) le_rfl
    rw [abs_mul]
    exact mul_le_of_le_one_left (abs_nonneg _) (hle j)

theorem exp_bounds (l : ℝ) (h : |l| ≤ 32) : Real.exp (-32) ≤ Real.exp l ∧ Real.exp l ≤ Real.exp 32 :=
  ⟨Real.exp_le_exp.2 (abs_le.1 h).1, Real.exp_le_exp.2 (abs_le.1 h).2⟩

/-- The weights' sum is a positive real, at most 24 exponentials. -/
theorem total_real (hD : Bounded D) (hS : ∃ n, Free S n) :
    ∃ t : ℝ, total D S = t ∧ 0 < t ∧ t ≤ 24 * Real.exp 32 := by
  choose l hl hb using logit_real (D := D) S hD
  have hm : ∀ n, mass D S n = ((if Free S n then Real.exp (l n) else 0 : ℝ) : EReal) := by
    intro n
    rw [mass]
    split_ifs
    · rw [hl, Ideal.exp_coe]
    · rfl
  refine ⟨∑ n, if Free S n then Real.exp (l n) else 0, ?_, ?_, ?_⟩
  · rw [coe_sum]
    exact Finset.sum_congr rfl fun n _ => hm n
  · obtain ⟨n, hn⟩ := hS
    refine Finset.sum_pos' (fun k _ => ?_) ⟨n, Finset.mem_univ n, ?_⟩
    · split_ifs
      · exact (Real.exp_pos _).le
      · exact le_rfl
    · rw [if_pos hn]; exact Real.exp_pos _
  · refine (Finset.sum_le_card_nsmul _ _ (Real.exp 32) fun n _ => ?_).trans (by simp)
    split_ifs
    · exact (exp_bounds _ (hb n)).2
    · exact (Real.exp_pos _).le

theorem floor_small : floorR * (24 * Real.exp 32) ≤ Real.exp (-32) := by
  have he : Real.exp 32 ≤ 2.75 ^ 32 := by
    have h : Real.exp 1 ≤ 2.75 := (Real.exp_bound' zero_le_one le_rfl (n := 5) (by norm_num)).trans (by
      norm_num [Finset.sum_range_succ, Nat.factorial])
    calc Real.exp 32 = Real.exp 1 ^ 32 := by rw [← Real.exp_nat_mul]; norm_num
      _ ≤ _ := pow_le_pow_left₀ (Real.exp_pos 1).le h 32
  have hp := Real.exp_pos 32
  rw [Real.exp_neg, le_inv_comm₀ (by unfold floorR; positivity) hp, ← one_div, le_div_iff₀ (by unfold floorR; positivity)]
  have h2 : Real.exp 32 * Real.exp 32 ≤ 2.75 ^ 32 * 2.75 ^ 32 := mul_le_mul he he hp.le (by positivity)
  have h3 : floorR * 24 * (2.75 ^ 32 * 2.75 ^ 32) ≤ 1 := by unfold floorR; norm_num
  have h4 : (0 : ℝ) ≤ floorR * 24 := by unfold floorR; positivity
  nlinarith [mul_le_mul_of_nonneg_left h2 h4]

theorem log_pos {r : ℝ} (h : 0 < r) : Ideal.log (r : EReal) = (Real.log r : ℝ) := if_neg (not_le.2 h)

/-- The logarithm of a probability, the floor under it never reached where a note is free. -/
theorem log_prob (hD : Bounded D) (hS : ∃ n, Free S n) (n : Fin 24) :
    (if 0 < prob D S n then Ideal.log (max (prob D S n) (Ideal.ofBits .f32 0x0DA24260#32)) else masked)
      = if Free S n then logit D S n - Ideal.log (total D S) else masked := by
  obtain ⟨l, hl, hb⟩ := logit_real S hD n
  obtain ⟨t, ht, h0, hle⟩ := total_real S hD hS
  have hE : (t : EReal) ≠ 0 := by exact_mod_cast h0.ne'
  by_cases hf : Free S n
  · have hp : prob D S n = ((Real.exp l / t : ℝ) : EReal) := by
      rw [prob, mass, if_pos hf, hl, ht, Ideal.exp_coe, Ideal.div, if_neg hE, div_eq_mul_inv, EReal.coe_mul, EReal.coe_inv]
    have hpos : 0 < Real.exp l / t := div_pos (Real.exp_pos _) h0
    have hfl : floorR ≤ Real.exp l / t := by
      rw [le_div_iff₀ h0]
      have h4 : (0 : ℝ) ≤ floorR := by unfold floorR; positivity
      exact (mul_le_mul_of_nonneg_left hle h4).trans (floor_small.trans (exp_bounds l hb).1)
    rw [hp, if_pos hf, if_pos (by exact_mod_cast hpos), floor_eq, max_eq_left (by exact_mod_cast hfl), hl, ht,
      log_pos hpos, log_pos h0, Real.log_div (Real.exp_pos _).ne' h0.ne', Real.log_exp, EReal.coe_sub]
  · have hp : prob D S n = 0 := by rw [prob, mass, if_neg hf, ht, Ideal.div, if_neg hE, zero_mul]
    rw [hp, if_neg (lt_irrefl _), if_neg hf]

/-! ## The masks and the marks -/

variable (D)

theorem coeff_eq (n : Fin 24) : (1 - ind S n) * (1 - ind S (partner n)) = if Free S n then (1 : EReal) else 0 := by
  have h0 : (1 : EReal) - 1 = 0 := by
    rw [show (1 : EReal) = ((1 : ℝ) : EReal) from rfl, ← EReal.coe_sub]; norm_num
  unfold ind Free
  by_cases h1 : n ∈ S <;> by_cases h2 : partner n ∈ S <;> simp [h1, h2, h0]

theorem mass_eq (n : Fin 24) : (if Free S n then (1 : EReal) else 0) * Ideal.exp (logit D S n) = mass D S n := by
  rw [mass]
  split_ifs
  · rw [one_mul]
  · rw [zero_mul]

theorem max_mark (n c : Fin 24) : max (ind S n) (if n = c then 1 else 0) = ind (insert c S) n := by
  simp only [ind, Finset.mem_insert]
  by_cases h2 : n = c
  · rw [if_pos h2, if_pos (Or.inl h2)]
    exact max_eq_right (by split_ifs <;> norm_num)
  · rw [if_neg h2]
    by_cases h1 : n ∈ S <;> simp [h1, h2]

theorem clamp_mark (n c : Fin 24) : min 1 (max 0 (ind S n + if n = c then 1 else 0)) = ind (insert c S) n := by
  have h2' : (1 : EReal) ≤ 1 + 1 := by
    rw [show (1 : EReal) = ((1 : ℝ) : EReal) from rfl, ← EReal.coe_add]; exact_mod_cast (by norm_num : (1 : ℝ) ≤ 1 + 1)
  have h3 : (0 : EReal) ≤ 1 + 1 := zero_le_one.trans h2'
  unfold ind
  by_cases h1 : n ∈ S <;> by_cases h2 : n = c <;> simp [h1, h2, h2', h3]
  all_goals (subst h2; simp [h1, h2', h3])

/-! ## Sums in two parts -/

/-- The gate as the reference sums it. -/
theorem gate_eq (j : Fin 400) (f : Fin 154 → EReal) (h1 : ∀ k : Fin 130, f (Fin.castLE (by norm_num) k) = D.x k)
    (h2 : ∀ k : Fin 24, f (Fin.natAdd 130 k) = ind S k) :
    ∑ k : Fin 154, f k * D.w j k + 0 + D.bi j + D.bh j = gate D S j := by
  rw [gate, Fin.sum_univ_add (a := 130) (b := 24), add_zero, add_assoc]
  congr 2
  · exact Finset.sum_congr rfl fun k _ => by rw [← h1]; rfl
  · exact Finset.sum_congr rfl fun k _ => by rw [← h2]

/-- The gate with its columns scaled by a real. -/
theorem gate_scaled (j : Fin 400) (c : ℝ) (hc : 0 ≤ c) :
    (∑ k : Fin 130, D.x k * (D.w j (k.castLE (by norm_num)) * c) + (D.bi j + D.bh j) * c)
      + ∑ k : Fin 24, ind S k * (D.w j (Fin.natAdd 130 k) * c) = gate D S j * c := by
  have hd : ∀ u v : EReal, (u + v) * (c : EReal) = u * c + v * c := fun u v =>
    EReal.right_distrib_of_nonneg_of_ne_top (by exact_mod_cast hc) (EReal.coe_ne_top c) u v
  simp only [gate, hd, sum_mul_half _ _ _ hc, mul_assoc]
  exact add_right_comm _ _ _

end Cert.Row

end
-- ==== Proof.HostArrays.lean ====
/-
  The arrays the host line prepares for the kernel, named, and what they hold at an index: the gates' weights and bias
  in three padded groups of 128 columns (two of them halved), the partner table beside the notes' weights, the padded
  output layer, and the two 24-by-24 tables.
-/
module

public import proofs.«01_k».proof.Proof.Row
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.HostArrays

open Cert.KernelIdeal Cert.KernelIdeal.Gen Idealize.ShloMosaic Idealize.ShloMosaic.TcCoe Idealize.SL.Sem

/-- The columns' factors: a half, one, a half. -/
def scale : FVec Ideal S1x384 .f32 :=
  concatenate S1x384 1 [⟨S1x128, broadcastInDim S1x128 ![] bcast_S_S1x128 (constant (F := Ideal) S_ .f32 0x3F000000#32)⟩,
    ⟨S1x128, broadcastInDim S1x128 ![] bcast_S_S1x128 (constant (F := Ideal) S_ .f32 0x3F800000#32)⟩,
    ⟨S1x128, broadcastInDim S1x128 ![] bcast_S_S1x128 (constant (F := Ideal) S_ .f32 0x3F000000#32)⟩] concatenates_S1x128_S1x128_S1x128_S1x384_d1

/-- The gates' weights, transposed, their forget columns dropped, packed and scaled. -/
def packed (w : FVec Ideal S400x154 .f32) : FVec Ideal S154x384 .f32 :=
  mulf (concatenate S154x384 1
      [⟨S154x100, extractStridedSlice S154x100 ![0, 0] (transpose S154x400 [1, 0] w transposes_S400x154_S154x400_1_0) slices_S154x400_S154x100_0_0⟩,
        ⟨S154x28, broadcastInDim S154x28 ![] bcast_S_S154x28 (constant (F := Ideal) S_ .f32 0x00000000#32)⟩,
        ⟨S154x100, extractStridedSlice S154x100 ![0, 200] (transpose S154x400 [1, 0] w transposes_S400x154_S154x400_1_0) slices_S154x400_S154x100_0_200⟩,
        ⟨S154x28, broadcastInDim S154x28 ![] bcast_S_S154x28 (constant (F := Ideal) S_ .f32 0x00000000#32)⟩,
        ⟨S154x100, extractStridedSlice S154x100 ![0, 300] (transpose S154x400 [1, 0] w transposes_S400x154_S154x400_1_0) slices_S154x400_S154x100_0_300⟩,
        ⟨S154x28, broadcastInDim S154x28 ![] bcast_S_S154x28 (constant (F := Ideal) S_ .f32 0x00000000#32)⟩]
      concatenates_S154x100_S154x28_S154x100_S154x28_S154x100_S154x28_S154x384_d1)
    (broadcastInDim S154x384 ![0, 1] bcast_S1x384_S154x384_0_1 scale)

/-- The two biases added, packed and scaled. -/
def packedBias (bi bh : FVec Ideal S400 .f32) : FVec Ideal S1x384 .f32 :=
  mulf (concatenate S1x384 1
      [⟨S1x100, extractStridedSlice S1x100 ![0, 0] (shapeCast S1x400 (addf bi bh) shapeCasts_S400_S1x400) slices_S1x400_S1x100_0_0⟩,
        ⟨S1x28, broadcastInDim S1x28 ![] bcast_S_S1x28 (constant (F := Ideal) S_ .f32 0x00000000#32)⟩,
        ⟨S1x100, extractStridedSlice S1x100 ![0, 200] (shapeCast S1x400 (addf bi bh) shapeCasts_S400_S1x400) slices_S1x400_S1x100_0_200⟩,
        ⟨S1x28, broadcastInDim S1x28 ![] bcast_S_S1x28 (constant (F := Ideal) S_ .f32 0x00000000#32)⟩,
        ⟨S1x100, extractStridedSlice S1x100 ![0, 300] (shapeCast S1x400 (addf bi bh) shapeCasts_S400_S1x400) slices_S1x400_S1x100_0_300⟩,
        ⟨S1x28, broadcastInDim S1x28 ![] bcast_S_S1x28 (constant (F := Ideal) S_ .f32 0x00000000#32)⟩]
      concatenates_S1x100_S1x28_S1x100_S1x28_S1x100_S1x28_S1x384_d1)
    scale

/-- The partner table: column `j` holds a 1 in the row of `j`'s partner. -/
def swap : FVec Ideal S24x24 .f32 := fun i => FloatOps.ofBits .f32 (lit0 (S24x24.rowMajor i))

/-- The strictly-before table: column `j` holds a 1 in the rows before `j`. -/
def before : FVec Ideal S24x24 .f32 := fun i => FloatOps.ofBits .f32 (lit1 (S24x24.rowMajor i))

/-- The input's weights. -/
def wx (w : FVec Ideal S400x154 .f32) : FVec Ideal S130x384 .f32 :=
  extractStridedSlice S130x384 ![0, 0] (packed w) slices_S154x384_S130x384_0_0

/-- The notes' weights beside the partner table. -/
def wc (w : FVec Ideal S400x154 .f32) : FVec Ideal S24x408 .f32 :=
  concatenate S24x408 1 [⟨S24x384, extractStridedSlice S24x384 ![130, 0] (packed w) slices_S154x384_S24x384_130_0⟩, ⟨S24x24, swap⟩]
    concatenates_S24x384_S24x24_S24x408_d1

/-- The output layer's weights, transposed and padded with zero rows. -/
def wl (w : FVec Ideal S24x100 .f32) : FVec Ideal S128x24 .f32 :=
  concatenate S128x24 0 [⟨S100x24, transpose S100x24 [1, 0] w transposes_S24x100_S100x24_1_0⟩,
    ⟨S28x24, broadcastInDim S28x24 ![] bcast_S_S28x24 (constant (F := Ideal) S_ .f32 0x00000000#32)⟩] concatenates_S100x24_S28x24_S128x24_d0

/-- The output layer's bias. -/
def bl (b : FVec Ideal S24 .f32) : FVec Ideal S1x24 .f32 := shapeCast S1x24 b shapeCasts_S24_S1x24

/-! ## The region's operands are these arrays -/

section
variable (m : (ℓ : Loc nD τ sig) → Buf (Elt Ideal) ℓ) (c : Dev nD)

theorem entry_wx : V m c main_v14 = wx (m ((c : Thread nD τ).loc main_arg1)) := rfl
theorem entry_wc : V m c main_v16 = wc (m ((c : Thread nD τ).loc main_arg1)) := rfl
theorem entry_b : V m c main_v22 = packedBias (m ((c : Thread nD τ).loc main_arg3)) (m ((c : Thread nD τ).loc main_arg4)) := rfl
theorem entry_wl : V m c main_v25 = wl (m ((c : Thread nD τ).loc main_arg5)) := rfl
theorem entry_bl : V m c main_v26 = bl (m ((c : Thread nD τ).loc main_arg6)) := rfl
theorem entry_lt : V m c main_cst_0 = before := rfl
end

/-! ## At an index -/

variable (w : FVec Ideal S400x154 .f32) (bi bh : FVec Ideal S400 .f32)

theorem lit0_eq : ∀ a b : Fin 24, lit0 (S24x24.rowMajor (ix2 a b)) = if a = Row.partner b then 0x3F800000#32 else 0x00000000#32 := by
  decide +kernel

theorem lit1_eq : ∀ a b : Fin 24, lit1 (S24x24.rowMajor (ix2 a b)) = if a < b then 0x3F800000#32 else 0x00000000#32 := by
  decide +kernel

theorem swap_apply (a b : Fin 24) : swap (ix2 a b) = if a = Row.partner b then 1 else 0 := by
  show Ideal.ofBits .f32 (lit0 (S24x24.rowMajor (ix2 a b))) = _
  rw [lit0_eq]
  split_ifs
  · exact Ideal.ofBits_one_f32
  · exact Ideal.ofBits_zero_f32

theorem before_apply (a b : Fin 24) : before (ix2 a b) = if a < b then 1 else 0 := by
  show Ideal.ofBits .f32 (lit1 (S24x24.rowMajor (ix2 a b))) = _
  rw [lit1_eq]
  split_ifs
  · exact Ideal.ofBits_one_f32
  · exact Ideal.ofBits_zero_f32

theorem packed_i (k : Fin 154) (j : Fin 100) :
    packed w (ix2 k ⟨j, by omega⟩) = w (ix2 ⟨j, by omega⟩ k) * Ideal.ofBits .f32 0x3F000000#32 := by
  pointwise [packed, scale]
  rw [dif_pos (by omega)]

theorem packed_g (k : Fin 154) (j : Fin 100) : packed w (ix2 k ⟨128 + j, by omega⟩) = w (ix2 ⟨200 + j, by omega⟩ k) := by
  pointwise [packed, scale]
  rw [dif_neg (by omega), dif_neg (by omega), dif_pos (by omega), dif_pos (by omega), mul_one]
  simp only [show 128 + (j : ℕ) - 100 - 28 = j by omega]

theorem packed_o (k : Fin 154) (j : Fin 100) :
    packed w (ix2 k ⟨256 + j, by omega⟩) = w (ix2 ⟨300 + j, by omega⟩ k) * Ideal.ofBits .f32 0x3F000000#32 := by
  pointwise [packed, scale]
  rw [dif_neg (by omega), dif_neg (by omega), dif_neg (by omega), dif_neg (by omega), dif_pos (by omega), dif_neg (by omega),
    dif_neg (by omega)]
  simp only [show 256 + (j : ℕ) - 100 - 28 - 100 - 28 = j by omega]

theorem bias_i (j : Fin 100) :
    packedBias bi bh (ix2 0 ⟨j, by omega⟩) = (bi (ix1 ⟨j, by omega⟩) + bh (ix1 ⟨j, by omega⟩)) * Ideal.ofBits .f32 0x3F000000#32 := by
  pointwise [packedBias, scale]
  rw [dif_pos (by omega)]

theorem bias_g (j : Fin 100) :
    packedBias bi bh (ix2 0 ⟨128 + j, by omega⟩) = bi (ix1 ⟨200 + j, by omega⟩) + bh (ix1 ⟨200 + j, by omega⟩) := by
  pointwise [packedBias, scale]
  rw [dif_neg (by omega), dif_neg (by omega), dif_pos (by omega), dif_pos (by omega), mul_one]
  simp only [show 128 + (j : ℕ) - 100 - 28 = j by omega]

theorem bias_o (j : Fin 100) :
    packedBias bi bh (ix2 0 ⟨256 + j, by omega⟩)
      = (bi (ix1 ⟨300 + j, by omega⟩) + bh (ix1 ⟨300 + j, by omega⟩)) * Ideal.ofBits .f32 0x3F000000#32 := by
  pointwise [packedBias, scale]
  rw [dif_neg (by omega), dif_neg (by omega), dif_neg (by omega), dif_neg (by omega), dif_pos (by omega), dif_neg (by omega),
    dif_neg (by omega)]
  simp only [show 256 + (j : ℕ) - 100 - 28 - 100 - 28 = j by omega]

theorem wc_left (k : Fin 24) (j : Fin 384) : wc w (ix2 k ⟨j, by omega⟩) = packed w (ix2 ⟨130 + k, by omega⟩ j) := by
  pointwise [wc]

theorem wx_apply (k : Fin 130) (j : Fin 384) : wx w (ix2 k j) = packed w (ix2 ⟨k, by omega⟩ j) := by
  pointwise [wx]

theorem wc_right (k j : Fin 24) : wc w (ix2 k ⟨384 + j, by omega⟩) = if k = Row.partner j then 1 else 0 := by
  pointwise [wc]
  exact swap_apply k j

theorem wl_apply (v : FVec Ideal S24x100 .f32) (j : Fin 128) (n : Fin 24) :
    wl v (ix2 j n) = if h : (j : ℕ) < 100 then v (ix2 n ⟨j, h⟩) else 0 := by
  pointwise [wl]

theorem bl_apply (v : FVec Ideal S24 .f32) (n : Fin 24) : bl v (ix2 0 n) = v (ix1 n) := by
  pointwise [bl]

end Cert.KernelIdeal.HostArrays

end
-- ==== Proof.Body.lean ====
/-
  The kernel's body, round by round. The body holds five rounds one after another; every round is the same function of
  the notes chosen so far (the first round alone is written without the mask, no note being taken). The functions of one
  round are named here over a whole block of 2048 rows, and the two stored blocks are shown to be the fifth round's.
-/
module

public import proofs.«01_k».proof.Proof.Gen.KernelIdeal.Frame

@[expose] public section

set_option maxRecDepth 16384

noncomputable section

namespace Cert.KernelIdeal.Body

open Cert.KernelIdeal Cert.KernelIdeal.Gen Idealize.ShloMosaic Idealize.SL.Sem

variable {F : FTy → Type} [FloatOps F]

/-- The gates' part that no chosen note enters: the input times its weights, plus the bias. -/
def base (x : Vec F S1x2048x130 .f32) (wx : Vec F S130x384 .f32) (b : Vec F S1x384 .f32) : FVec F S2048x384 .f32 :=
  addf (matmul dot_S2048x130_S130x384_S2048x384_1_0_0_1_n_n none (shapeCast S2048x130 x shapeCasts_S1x2048x130_S2048x130)
      (shapeCast S130x384 wx shapeCasts_S130x384_S130x384) (constant S2048x384 .f32 0x00000000#32))
    (broadcastTo S2048x384 (shapeCast S1x384 b shapeCasts_S1x384_S1x384) broadcasts_S1x384_S2048x384)

/-- `tanh(g) / 2 + 1 / 2`. -/
def sigm (g : FVec F S2048x128 .f32) : FVec F S2048x128 .f32 :=
  addf (mulf (tanh g) (broadcast S2048x128 (Scalar.ofBits .f32 0x3F000000#32)))
    (broadcast S2048x128 (Scalar.ofBits .f32 0x3F000000#32))

/-- The hidden state from the packed gates. -/
def hidden (g : FVec F S2048x384 .f32) : FVec F S2048x128 .f32 :=
  mulf (sigm (extractStridedSlice S2048x128 ![0, 256] g slices_S2048x384_o0_256_S2048x128))
    (tanh (mulf (sigm (extractStridedSlice S2048x128 ![0, 0] g slices_S2048x384_o0_0_S2048x128))
      (tanh (extractStridedSlice S2048x128 ![0, 128] g slices_S2048x384_o0_128_S2048x128))))

/-- The 24 notes' logits from the packed gates. -/
def logits (g : FVec F S2048x384 .f32) (wl : Vec F S128x24 .f32) (bl : Vec F S1x24 .f32) : FVec F S2048x24 .f32 :=
  addf (matmul dot_S2048x128_S128x24_S2048x24_1_0_0_1_n_n none (hidden g)
      (shapeCast S128x24 wl shapeCasts_S128x24_S128x24) (constant S2048x24 .f32 0x00000000#32))
    (broadcastTo S2048x24 (shapeCast S1x24 bl shapeCasts_S1x24_S1x24) broadcasts_S1x24_S2048x24)

/-- A block's row sums. -/
def total (p : FVec F S2048x24 .f32) : FVec F S2048x1 .f32 :=
  shapeCast S2048x1 (multiReduction .add [1] S2048 p 0x00000000#32 reduces_S2048x24_S2048 (.inl rfl) rfl) shapeCasts_S2048_S2048x1

/-- A bit as the number 0 or 1. -/
def flag (c : IVec S2048x24 1) : FVec F S2048x24 .f32 := sitofp .f32 (extui 32 c natLt_1_32)

/-- Where a row attains its maximum. -/
def attains (score : FVec F S2048x24 .f32) : FVec F S2048x24 .f32 :=
  flag (cmpf .oge score (broadcastTo S2048x24 (shapeCast S2048x1 (multiReduction .maximumf [1] S2048 score 0xFF800000#32
    reduces_S2048x24_S2048 (.inl rfl) rfl) shapeCasts_S2048_S2048x1) broadcasts_S2048x1_S2048x24))

/-- The first place where a row attains its maximum, as a row of one 1 and 23 zeros: no earlier place attains it. -/
def first (score : FVec F S2048x24 .f32) (lt : Vec F S24x24 .f32) : FVec F S2048x24 .f32 :=
  mulf (attains score) (flag (cmpf .oeq (matmul dot_S2048x24_S24x24_S2048x24_1_0_0_1_n_n none (attains score) lt
    (constant S2048x24 .f32 0x00000000#32)) (broadcast S2048x24 (Scalar.ofBits .f32 0x00000000#32))))

/-- The chosen notes times their weights and, in the last 24 columns, each note's partner. -/
def prod (sb : FVec F S2048x24 .f32) (wc : Vec F S24x408 .f32) : FVec F S2048x408 .f32 :=
  matmul dot_S2048x24_S24x408_S2048x408_1_0_0_1_n_n none sb (shapeCast S24x408 wc shapeCasts_S24x408_S24x408)
    (constant S2048x408 .f32 0x00000000#32)

/-- The gates of a round with the notes `sb` taken. -/
def gates (bs : FVec F S2048x384 .f32) (sb : FVec F S2048x24 .f32) (wc : Vec F S24x408 .f32) : FVec F S2048x384 .f32 :=
  addf bs (extractStridedSlice S2048x384 ![0, 0] (prod sb wc) slices_S2048x408_o0_0_S2048x384)

/-- 1 where neither the note nor its partner is taken, else 0. -/
def coeff (sb : FVec F S2048x24 .f32) (wc : Vec F S24x408 .f32) : FVec F S2048x24 .f32 :=
  mulf (subf (broadcast S2048x24 (Scalar.ofBits .f32 0x3F800000#32)) sb)
    (subf (broadcast S2048x24 (Scalar.ofBits .f32 0x3F800000#32))
      (extractStridedSlice S2048x24 ![0, 384] (prod sb wc) slices_S2048x408_o0_384_S2048x24))

/-- A round's score, the mask and the logits given. -/
def score (co out nz : FVec F S2048x24 .f32) : FVec F S2048x24 .f32 :=
  addf (select (cmpf .ogt co (broadcast S2048x24 (Scalar.ofBits .f32 0x00000000#32)))
    (subf out (broadcastTo S2048x24 (log (total (mulf co (exp out)))) broadcasts_S2048x1_S2048x24))
    (broadcast S2048x24 (Scalar.ofBits .f32 0xCE6E6B28#32))) nz

/-- The first round's score: no mask. -/
def score0 (out nz : FVec F S2048x24 .f32) : FVec F S2048x24 .f32 :=
  addf (subf out (broadcastTo S2048x24 (log (total (exp out))) broadcasts_S2048x1_S2048x24)) nz

/-- The notes taken after the first round. -/
def take0 (out nz : FVec F S2048x24 .f32) (lt : Vec F S24x24 .f32) : FVec F S2048x24 .f32 :=
  maximumf (broadcast S2048x24 (Scalar.ofBits .f32 0x00000000#32)) (first (score0 out nz) lt)

/-- The probabilities kept after the first round. -/
def keep0 (out nz : FVec F S2048x24 .f32) (lt : Vec F S24x24 .f32) : FVec F S2048x24 .f32 :=
  addf (broadcast S2048x24 (Scalar.ofBits .f32 0x00000000#32))
    (mulf (first (score0 out nz) lt) (divf (exp out) (broadcastTo S2048x24 (total (exp out)) broadcasts_S2048x1_S2048x24)))

/-- The notes taken after a later round. -/
def take (sb co out nz : FVec F S2048x24 .f32) (lt : Vec F S24x24 .f32) : FVec F S2048x24 .f32 :=
  maximumf sb (first (score co out nz) lt)

/-- The probabilities kept after a later round. -/
def keep (p co out nz : FVec F S2048x24 .f32) (lt : Vec F S24x24 .f32) : FVec F S2048x24 .f32 :=
  addf p (mulf (first (score co out nz) lt)
    (divf (mulf co (exp out)) (broadcastTo S2048x24 (total (mulf co (exp out))) broadcasts_S2048x1_S2048x24)))

/-- What the body loads: the row block's input, the weights and tables, and the five noise blocks. -/
structure Ins (F : FTy → Type) [FloatOps F] where
  /-- the input rows -/
  x : Vec F S1x2048x130 .f32
  /-- the input's weights -/
  wx : Vec F S130x384 .f32
  /-- the notes' weights and partners -/
  wc : Vec F S24x408 .f32
  /-- the gates' bias -/
  b : Vec F S1x384 .f32
  /-- the output layer's weights -/
  wl : Vec F S128x24 .f32
  /-- the output layer's bias -/
  bl : Vec F S1x24 .f32
  /-- the strictly-before table -/
  lt : Vec F S24x24 .f32
  /-- each round's noise -/
  nz : Fin 5 → FVec F S2048x24 .f32

/-- The logits of a round, the notes `sb` taken. -/
def out (I : Ins F) (sb : FVec F S2048x24 .f32) : FVec F S2048x24 .f32 := logits (gates (base I.x I.wx I.b) sb I.wc) I.wl I.bl

/-- The notes taken after round `v` of the later rounds. -/
def next (I : Ins F) (v : Fin 5) (sb : FVec F S2048x24 .f32) : FVec F S2048x24 .f32 :=
  take sb (coeff sb I.wc) (out I sb) (I.nz v) I.lt

/-- The probabilities kept after round `v` of the later rounds. -/
def kept (I : Ins F) (v : Fin 5) (sb p : FVec F S2048x24 .f32) : FVec F S2048x24 .f32 :=
  keep p (coeff sb I.wc) (out I sb) (I.nz v) I.lt

/-- The notes taken after each round. -/
def sb1 (I : Ins F) : FVec F S2048x24 .f32 := take0 (logits (base I.x I.wx I.b) I.wl I.bl) (I.nz 0) I.lt
@[inherit_doc sb1] def sb2 (I : Ins F) : FVec F S2048x24 .f32 := next I 1 (sb1 I)
@[inherit_doc sb1] def sb3 (I : Ins F) : FVec F S2048x24 .f32 := next I 2 (sb2 I)
@[inherit_doc sb1] def sb4 (I : Ins F) : FVec F S2048x24 .f32 := next I 3 (sb3 I)
@[inherit_doc sb1] def sb5 (I : Ins F) : FVec F S2048x24 .f32 := next I 4 (sb4 I)

/-- The probabilities kept after each round. -/
def p1 (I : Ins F) : FVec F S2048x24 .f32 := keep0 (logits (base I.x I.wx I.b) I.wl I.bl) (I.nz 0) I.lt
@[inherit_doc p1] def p2 (I : Ins F) : FVec F S2048x24 .f32 := kept I 1 (sb1 I) (p1 I)
@[inherit_doc p1] def p3 (I : Ins F) : FVec F S2048x24 .f32 := kept I 2 (sb2 I) (p2 I)
@[inherit_doc p1] def p4 (I : Ins F) : FVec F S2048x24 .f32 := kept I 3 (sb3 I) (p3 I)
@[inherit_doc p1] def p5 (I : Ins F) : FVec F S2048x24 .f32 := kept I 4 (sb4 I) (p4 I)

variable (x0 : Vec F S1x2048x130 .f32) (x1 : Vec F S130x384 .f32) (x2 : Vec F S24x408 .f32) (x3 : Vec F S1x384 .f32)
  (x4 : Vec F S128x24 .f32) (x5 : Vec F S1x24 .f32) (x6 : Vec F S24x24 .f32) (x7 : Vec F S5x2048x24 .f32)

/-- The loads of one block. -/
def ins : Ins F where
  x := View.ld x0 r0_0
  wx := View.ld x1 r0_1
  wc := View.ld x2 r0_11
  b := View.ld x3 r0_2
  wl := View.ld x4 r0_8
  bl := View.ld x5 r0_9
  lt := View.ld x6 r0_10
  nz := ![shapeCast S2048x24 (View.ld x7 r0_3) shapeCasts_S1x2048x24_S2048x24, shapeCast S2048x24 (View.ld x7 r0_4) shapeCasts_S1x2048x24_S2048x24,
    shapeCast S2048x24 (View.ld x7 r0_5) shapeCasts_S1x2048x24_S2048x24, shapeCast S2048x24 (View.ld x7 r0_6) shapeCasts_S1x2048x24_S2048x24,
    shapeCast S2048x24 (View.ld x7 r0_7) shapeCasts_S1x2048x24_S2048x24]

theorem st1 : k0_pay67 x0 x1 x2 x3 x4 x5 x6 x7 = sb1 (ins x0 x1 x2 x3 x4 x5 x6 x7) := rfl

theorem st2 : k0_pay72 x0 x1 x2 x3 x4 x5 x6 x7 = next (ins x0 x1 x2 x3 x4 x5 x6 x7) 1 (k0_pay67 x0 x1 x2 x3 x4 x5 x6 x7) := rfl

theorem st3 : k0_pay75 x0 x1 x2 x3 x4 x5 x6 x7 = next (ins x0 x1 x2 x3 x4 x5 x6 x7) 2 (k0_pay72 x0 x1 x2 x3 x4 x5 x6 x7) := rfl

/-- The notes taken after four rounds, as the body writes them. -/
abbrev body4 : FVec F S2048x24 .f32 :=
  k0_pay54 (k0_pay75 x0 x1 x2 x3 x4 x5 x6 x7) (k0_pay81 x0 x1 x2 x3 x4 x5 x6 x7) (View.ld x6 r0_10) (k0_pay80 x0 x1 x2 x3 x4 x5 x6 x7)

theorem st4 : body4 x0 x1 x2 x3 x4 x5 x6 x7 = next (ins x0 x1 x2 x3 x4 x5 x6 x7) 3 (k0_pay75 x0 x1 x2 x3 x4 x5 x6 x7) := rfl

/-- The first stored block: the notes taken after the fifth round, their first 12 columns. -/
theorem out8 : out0_8 x0 x1 x2 x3 x4 x5 x6 x7 = View.canon [⟨r0_12,
    extractStridedSlice S2048x12 ![0, 0] (sb5 (ins x0 x1 x2 x3 x4 x5 x6 x7)) slices_S2048x24_o0_0_S2048x12⟩] := by
  have h : out0_8 x0 x1 x2 x3 x4 x5 x6 x7 = View.canon [⟨r0_12, extractStridedSlice S2048x12 ![0, 0]
      (next (ins x0 x1 x2 x3 x4 x5 x6 x7) 4 (body4 x0 x1 x2 x3 x4 x5 x6 x7)) slices_S2048x24_o0_0_S2048x12⟩] := rfl
  rw [h, st4, st3, st2, st1]; rfl

/-- The second stored block: the probabilities kept after the fifth round. -/
theorem out9 : out0_9 x0 x1 x2 x3 x4 x5 x6 x7 = View.canon [⟨r0_13, p5 (ins x0 x1 x2 x3 x4 x5 x6 x7)⟩] := by
  have h : out0_9 x0 x1 x2 x3 x4 x5 x6 x7 = View.canon [⟨r0_13,
      kept (ins x0 x1 x2 x3 x4 x5 x6 x7) 4 (body4 x0 x1 x2 x3 x4 x5 x6 x7)
        (kept (ins x0 x1 x2 x3 x4 x5 x6 x7) 3 (k0_pay75 x0 x1 x2 x3 x4 x5 x6 x7)
          (kept (ins x0 x1 x2 x3 x4 x5 x6 x7) 2 (k0_pay72 x0 x1 x2 x3 x4 x5 x6 x7)
            (kept (ins x0 x1 x2 x3 x4 x5 x6 x7) 1 (k0_pay67 x0 x1 x2 x3 x4 x5 x6 x7)
              (p1 (ins x0 x1 x2 x3 x4 x5 x6 x7)))))⟩] := rfl
  rw [h, st4, st3, st2, st1]; rfl

end Cert.KernelIdeal.Body

end
-- ==== Proof.KernelRow.lean ====
/-
  The kernel's block, row by row: after every round row `r` of the block's marks holds the row's set of taken notes, and
  row `r` of its sums what the row has kept.
-/
module

public import proofs.«01_k».proof.Proof.HostArrays
public import proofs.«01_k».proof.Proof.Body

@[expose] public section

set_option maxRecDepth 16384

noncomputable section

namespace Cert.KernelIdeal.Body

open Cert.KernelIdeal Cert.KernelIdeal.Gen Cert.KernelIdeal.HostArrays Cert.Row Idealize.ShloMosaic

variable (X : FVec Ideal S1x2048x130 .f32) (w : FVec Ideal S400x154 .f32) (bi bh : FVec Ideal S400 .f32)
  (v : FVec Ideal S24x100 .f32) (b : FVec Ideal S24 .f32) (nz : Fin 5 → FVec Ideal S2048x24 .f32) (r : Fin 2048)

/-- A block's loads, the prepared arrays written out. -/
def insOf : Ins Ideal := ⟨X, wx w, wc w, packedBias bi bh, HostArrays.wl v, HostArrays.bl b, before, nz⟩

/-- What row `r` of the block reads. -/
def rowOf : Data where
  x k := X (ix3 0 r k)
  w j k := w (ix2 j k)
  bi j := bi (ix1 j)
  bh j := bh (ix1 j)
  wl n j := v (ix2 n j)
  bl n := b (ix1 n)
  nz t n := nz t (ix2 r n)

/-- Row `r` of the marks holds the set `S`. -/
def Holds (sb : FVec Ideal S2048x24 .f32) (S : Finset (Fin 24)) (r : Fin 2048) : Prop := ∀ n : Fin 24, sb (ix2 r n) = ind S n

/-- Row `r` of the packed gates holds the row's gates, those of the input and the output halved. -/
structure HoldsGates (g : FVec Ideal S2048x384 .f32) (D : Data) (S : Finset (Fin 24)) (r : Fin 2048) : Prop where
  /-- the input gate -/
  input : ∀ j : Fin 100, g (ix2 r ⟨j, by omega⟩) = gate D S ⟨j, by omega⟩ * Ideal.ofBits .f32 0x3F000000#32
  /-- the cell gate -/
  cell : ∀ j : Fin 100, g (ix2 r ⟨128 + j, by omega⟩) = gate D S ⟨200 + j, by omega⟩
  /-- the output gate -/
  output : ∀ j : Fin 100, g (ix2 r ⟨256 + j, by omega⟩) = gate D S ⟨300 + j, by omega⟩ * Ideal.ofBits .f32 0x3F000000#32

variable {X w bi bh v b nz r} {S : Finset (Fin 24)} {sb : FVec Ideal S2048x24 .f32}

/-- A column of the packed gates, its weights and bias scaled by `c`. -/
theorem column (hS : Holds sb S r) (q : Fin 384) (j : Fin 400) (c : ℝ) (hc : 0 ≤ c)
    (hw : ∀ k : Fin 154, packed w (ix2 k q) = w (ix2 j k) * (c : EReal))
    (hb : packedBias bi bh (ix2 0 q) = (bi (ix1 j) + bh (ix1 j)) * (c : EReal)) :
    gates (base X (wx w) (packedBias bi bh)) sb (wc w) (ix2 r q) = gate (rowOf X w bi bh v b nz r) S j * (c : EReal) := by
  rw [← gate_scaled (rowOf X w bi bh v b nz r) S j c hc]
  pointwise [gates, prod, base]
  rw [hb]
  congr 1
  · congr 1
    refine Finset.sum_congr rfl fun k _ => ?_
    rw [wx_apply, hw]; rfl
  · refine Finset.sum_congr rfl fun k _ => ?_
    rw [hS k, wc_left, hw]; rfl

/-- The first round's column. -/
theorem column0 (q : Fin 384) (j : Fin 400) (c : ℝ) (hc : 0 ≤ c)
    (hw : ∀ k : Fin 154, packed w (ix2 k q) = w (ix2 j k) * (c : EReal))
    (hb : packedBias bi bh (ix2 0 q) = (bi (ix1 j) + bh (ix1 j)) * (c : EReal)) :
    base (F := Ideal) X (wx w) (packedBias bi bh) (ix2 r q) = gate (rowOf X w bi bh v b nz r) ∅ j * (c : EReal) := by
  rw [← gate_scaled (rowOf X w bi bh v b nz r) ∅ j c hc, Finset.sum_eq_zero (s := Finset.univ (α := Fin 24)) (fun k _ => by
    rw [show ind ∅ k = 0 from if_neg (Finset.notMem_empty k), zero_mul]), add_zero]
  pointwise [base]
  rw [hb]
  congr 1
  refine Finset.sum_congr rfl fun k _ => ?_
  rw [wx_apply, hw]; rfl

theorem one_coe (x : EReal) : x = x * ((1 : ℝ) : EReal) := (mul_one x).symm

theorem gates_row (hS : Holds sb S r) :
    HoldsGates (gates (base X (wx w) (packedBias bi bh)) sb (wc w)) (rowOf X w bi bh v b nz r) S r where
  input j := by
    rw [half]
    exact column hS _ _ _ (by norm_num) (fun k => by rw [packed_i, half]) (by rw [bias_i, half])
  cell j := by
    rw [one_coe (gate _ _ _)]
    exact column hS _ _ _ zero_le_one (fun k => by rw [packed_g, ← one_coe]) (by rw [bias_g, ← one_coe])
  output j := by
    rw [half]
    exact column hS _ _ _ (by norm_num) (fun k => by rw [packed_o, half]) (by rw [bias_o, half])

theorem base_row : HoldsGates (base X (wx w) (packedBias bi bh)) (rowOf X w bi bh v b nz r) ∅ r where
  input j := by
    rw [half]
    exact column0 _ _ _ (by norm_num) (fun k => by rw [packed_i, half]) (by rw [bias_i, half])
  cell j := by
    rw [one_coe (gate _ _ _)]
    exact column0 _ _ _ zero_le_one (fun k => by rw [packed_g, ← one_coe]) (by rw [bias_g, ← one_coe])
  output j := by
    rw [half]
    exact column0 _ _ _ (by norm_num) (fun k => by rw [packed_o, half]) (by rw [bias_o, half])

variable {g : FVec Ideal S2048x384 .f32}

theorem logits_row (h : HoldsGates g (rowOf X w bi bh v b nz r) S r) (n : Fin 24) :
    logits g (HostArrays.wl v) (HostArrays.bl b) (ix2 r n) = logit (rowOf X w bi bh v b nz r) S n := by
  pointwise [logits]
  rw [bl_apply, logit]
  congr 1
  rw [Fin.sum_univ_add (a := 100) (b := 28), Finset.sum_eq_zero (s := Finset.univ (α := Fin 28)) (fun k _ => by
    rw [wl_apply, dif_neg (by simp), mul_zero]), add_zero]
  refine Finset.sum_congr rfl fun j _ => ?_
  rw [wl_apply, dif_pos (show ((Fin.castAdd 28 j : Fin 128) : ℕ) < 100 from j.isLt)]
  congr 1
  pointwise [hidden, sigm]
  erw [h.input j, h.cell j, h.output j]
  rw [sigma_half, sigma_half]
  rfl

theorem coeff_row (hS : Holds sb S r) (n : Fin 24) : coeff sb (wc w) (ix2 r n) = if Free S n then 1 else 0 := by
  pointwise [coeff, prod]
  rw [← coeff_eq, hS n]
  congr 2
  rw [Finset.sum_eq_single (partner n)]
  · erw [wc_right, if_pos rfl]
    rw [mul_one, hS]
  · intro k _ hk
    erw [wc_right, if_neg hk]
    rw [mul_zero]
  · exact fun h => absurd (Finset.mem_univ _) h

theorem first_row (s : Fin 24 → EReal) (sc : FVec Ideal S2048x24 .f32) (h : ∀ n, sc (ix2 r n) = s n) (n : Fin 24) :
    first sc before (ix2 r n) = if n = pick s then 1 else 0 := by
  pointwise [first, flag, attains]
  simp only [flag_eq, before_apply, h]
  exact first_eq s n _ (fold_max_le_iff s)

section round
variable {co out : FVec Ideal S2048x24 .f32} {D : Data}

theorem weights_row (hco : ∀ n, co (ix2 r n) = if Free S n then 1 else 0) (hout : ∀ n, out (ix2 r n) = logit D S n) (n : Fin 24) :
    mulf co (Idealize.ShloMosaic.exp out) (ix2 r n) = mass D S n := by
  rw [← mass_eq, ← hco, ← hout]; rfl

theorem score_row (hco : ∀ n, co (ix2 r n) = if Free S n then 1 else 0) (hout : ∀ n, out (ix2 r n) = logit D S n)
    (z : FVec Ideal S2048x24 .f32) (t : Fin 5) (hz : ∀ n, z (ix2 r n) = D.nz t n) (n : Fin 24) :
    score co out z (ix2 r n) = Row.score D S t n := by
  pointwise [score, total]
  simp only [hco, hout, hz, mass_eq]
  rw [Row.score]
  congr 1
  by_cases hf : Free S n
  · rw [if_pos hf, if_pos zero_lt_one, if_pos hf]; rfl
  · rw [if_neg hf, if_neg (lt_irrefl _), if_neg hf]

theorem keep_row (hco : ∀ n, co (ix2 r n) = if Free S n then 1 else 0) (hout : ∀ n, out (ix2 r n) = logit D S n)
    (z : FVec Ideal S2048x24 .f32) (t : Fin 5) (hz : ∀ n, z (ix2 r n) = D.nz t n) (p : FVec Ideal S2048x24 .f32) (n : Fin 24) :
    keep p co out z before (ix2 r n) = p (ix2 r n) + (if n = Row.choice D S t then 1 else 0) * Row.prob D S n := by
  pointwise [keep, total]
  rw [first_row _ _ (score_row hco hout z t hz)]
  simp only [hco, hout, mass_eq]
  rfl

theorem take_row (hco : ∀ n, co (ix2 r n) = if Free S n then 1 else 0) (hout : ∀ n, out (ix2 r n) = logit D S n)
    (z : FVec Ideal S2048x24 .f32) (t : Fin 5) (hz : ∀ n, z (ix2 r n) = D.nz t n) (hS : Holds sb S r) :
    Holds (take sb co out z before) (insert (Row.choice D S t) S) r := by
  intro n
  pointwise [take]
  rw [first_row _ _ (score_row hco hout z t hz), hS n]
  exact max_mark S n _

theorem free_empty (n : Fin 24) : Free ∅ n := ⟨Finset.notMem_empty _, Finset.notMem_empty _⟩

theorem score0_row (hout : ∀ n, out (ix2 r n) = logit D ∅ n) (z : FVec Ideal S2048x24 .f32) (t : Fin 5)
    (hz : ∀ n, z (ix2 r n) = D.nz t n) (n : Fin 24) : score0 out z (ix2 r n) = Row.score D ∅ t n := by
  pointwise [score0, total]
  simp only [hout, hz, Row.score, Row.total, mass, if_pos (free_empty _)]

theorem keep0_row (hout : ∀ n, out (ix2 r n) = logit D ∅ n) (z : FVec Ideal S2048x24 .f32) (t : Fin 5)
    (hz : ∀ n, z (ix2 r n) = D.nz t n) (n : Fin 24) :
    keep0 out z before (ix2 r n) = 0 + (if n = Row.choice D ∅ t then 1 else 0) * Row.prob D ∅ n := by
  pointwise [keep0, total]
  rw [first_row _ _ (score0_row hout z t hz)]
  simp only [hout, Row.prob, Row.total, mass, if_pos (free_empty _), zero_add]
  rfl

theorem take0_row (hout : ∀ n, out (ix2 r n) = logit D ∅ n) (z : FVec Ideal S2048x24 .f32) (t : Fin 5)
    (hz : ∀ n, z (ix2 r n) = D.nz t n) : Holds (take0 out z before) (insert (Row.choice D ∅ t) ∅) r := by
  intro n
  pointwise [take0]
  rw [first_row _ _ (score0_row hout z t hz), ← max_mark, show ind ∅ n = 0 from if_neg (Finset.notMem_empty n)]
  rfl

end round

variable (X w bi bh v b nz r)

theorem next_row (t : Fin 5) (hS : Holds sb S r) :
    Holds (next (insOf X w bi bh v b nz) t sb) (insert (Row.choice (rowOf X w bi bh v b nz r) S t) S) r :=
  take_row (coeff_row hS) (logits_row (gates_row hS)) _ t (fun _ => rfl) hS

theorem kept_row (t : Fin 5) (hS : Holds sb S r) (p : FVec Ideal S2048x24 .f32) (n : Fin 24) :
    kept (insOf X w bi bh v b nz) t sb p (ix2 r n) = p (ix2 r n) + (if n = Row.choice (rowOf X w bi bh v b nz r) S t then 1 else 0) * Row.prob (rowOf X w bi bh v b nz r) S n :=
  keep_row (coeff_row hS) (logits_row (gates_row hS)) _ t (fun _ => rfl) p n

theorem sb1_row : Holds (sb1 (insOf X w bi bh v b nz)) (taken (rowOf X w bi bh v b nz r) 1) r := take0_row (logits_row base_row) _ 0 fun _ => rfl
theorem sb2_row : Holds (sb2 (insOf X w bi bh v b nz)) (taken (rowOf X w bi bh v b nz r) 2) r := next_row X w bi bh v b nz r 1 (sb1_row X w bi bh v b nz r)
theorem sb3_row : Holds (sb3 (insOf X w bi bh v b nz)) (taken (rowOf X w bi bh v b nz r) 3) r := next_row X w bi bh v b nz r 2 (sb2_row X w bi bh v b nz r)
theorem sb4_row : Holds (sb4 (insOf X w bi bh v b nz)) (taken (rowOf X w bi bh v b nz r) 4) r := next_row X w bi bh v b nz r 3 (sb3_row X w bi bh v b nz r)
theorem sb5_row : Holds (sb5 (insOf X w bi bh v b nz)) (taken (rowOf X w bi bh v b nz r) 5) r := next_row X w bi bh v b nz r 4 (sb4_row X w bi bh v b nz r)

/-- What the row has kept after the fifth round. -/
theorem p5_row (n : Fin 24) : p5 (insOf X w bi bh v b nz) (ix2 r n) = Row.kept (rowOf X w bi bh v b nz r) 5 n := by
  have h1 : p1 (insOf X w bi bh v b nz) (ix2 r n) = _ := keep0_row (D := rowOf X w bi bh v b nz r) (logits_row base_row) _ 0 (fun _ => rfl) n
  rw [p5, kept_row X w bi bh v b nz r 4 (sb4_row X w bi bh v b nz r), p4, kept_row X w bi bh v b nz r 3 (sb3_row X w bi bh v b nz r),
    p3, kept_row X w bi bh v b nz r 2 (sb2_row X w bi bh v b nz r), p2, kept_row X w bi bh v b nz r 1 (sb1_row X w bi bh v b nz r), h1]
  rfl

end Cert.KernelIdeal.Body

end
-- ==== Proof.Rounds.lean ====
/-
  The reference's rounds. Its five rounds are one function of the notes chosen so far; the steps of one round are named
  here over the whole arrays, and every named stage of the reference's run is shown to be the step of the stages before.
-/
module

public import proofs.«01_k».proof.Proof.Gen.ReferenceIdeal.Run

@[expose] public section

set_option maxRecDepth 16384

noncomputable section

namespace Cert.ReferenceIdeal.Rounds

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The four gates of all 100 cells: the input, the sampled and the banned notes times the weights, the zero hidden state
    times its weights, and the two biases. -/
def gates (x : FVec F S1x16384x130 .f32) (w : FVec F S400x154 .f32) (wh : FVec F S400x100 .f32) (bi bh : FVec F S400 .f32)
    (sa ba : FVec F S1x16384x12 .f32) : FVec F S16384x400 .f32 :=
  addf (addf (addf (Host.dotGeneral dot_S16384x154_S154x400_S16384x400_1_0_0_1_n_n none
      (concatenate S16384x154 1 [⟨S16384x130, shapeCast _ x shapeCasts_S1x16384x130_S16384x130⟩,
        ⟨S16384x12, shapeCast _ sa shapeCasts_S1x16384x12_S16384x12⟩, ⟨S16384x12, shapeCast _ ba shapeCasts_S1x16384x12_S16384x12⟩]
        concatenates_S16384x130_S16384x12_S16384x12_S16384x154_d1)
      (transpose S154x400 [1, 0] w transposes_S400x154_S154x400_1_0))
    (Host.dotGeneral dot_S16384x100_S100x400_S16384x400_1_0_0_1_n_n none
      (broadcastInDim S16384x100 ![] bcast_S_S16384x100 (constant S_ .f32 0x00000000#32))
      (transpose S100x400 [1, 0] wh transposes_S400x100_S100x400_1_0)))
    (broadcastInDim S16384x400 ![0, 1] bcast_S1x400_S16384x400_0_1 (broadcastInDim S1x400 ![1] bcast_S400_S1x400_1 bi)))
    (broadcastInDim S16384x400 ![0, 1] bcast_S1x400_S16384x400_0_1 (broadcastInDim S1x400 ![1] bcast_S400_S1x400_1 bh))

/-- `1 / (1 + exp(-g))`. -/
def sigm (g : FVec F S16384x100 .f32) : FVec F S16384x100 .f32 :=
  Host.divf (broadcastInDim S16384x100 ![] bcast_S_S16384x100 (constant S_ .f32 0x3F800000#32))
    (addf (broadcastInDim S16384x100 ![] bcast_S_S16384x100 (constant S_ .f32 0x3F800000#32)) (Host.exp (Host.negf g)))

/-- The hidden state: the forget gate multiplies a zero cell. -/
def hidden (g : FVec F S16384x400 .f32) : FVec F S16384x100 .f32 :=
  mulf (sigm (extractStridedSlice S16384x100 ![0, 300] g slices_S16384x400_S16384x100_0_300))
    (Host.tanh (addf (mulf (sigm (extractStridedSlice S16384x100 ![0, 100] g slices_S16384x400_S16384x100_0_100))
        (broadcastInDim S16384x100 ![] bcast_S_S16384x100 (constant S_ .f32 0x00000000#32)))
      (mulf (sigm (extractStridedSlice S16384x100 ![0, 0] g slices_S16384x400_S16384x100_0_0))
        (Host.tanh (extractStridedSlice S16384x100 ![0, 200] g slices_S16384x400_S16384x100_0_200)))))

/-- The 24 notes' logits. -/
def logits (g : FVec F S16384x400 .f32) (wl : FVec F S24x100 .f32) (bl : FVec F S24 .f32) : FVec F S16384x24 .f32 :=
  addf (Host.dotGeneral dot_S16384x100_S100x24_S16384x24_1_0_0_1_n_n none (hidden g)
      (transpose S100x24 [1, 0] wl transposes_S24x100_S100x24_1_0))
    (broadcastInDim S16384x24 ![0, 1] bcast_S1x24_S16384x24_0_1 (broadcastInDim S1x24 ![1] bcast_S24_S1x24_1 bl))

/-- One less the notes `s`, twice over: a note and its partner are masked together. -/
def unmarked (s : FVec F S1x16384x12 .f32) : FVec F S16384x24 .f32 :=
  subf (broadcastInDim S16384x24 ![] bcast_S_S16384x24 (constant S_ .f32 0x3F800000#32))
    (concatenate S16384x24 1 [⟨S16384x12, shapeCast _ s shapeCasts_S1x16384x12_S16384x12⟩,
      ⟨S16384x12, shapeCast _ s shapeCasts_S1x16384x12_S16384x12⟩] concatenates_S16384x12_S16384x12_S16384x24_d1)

/-- The masked exponentials of the logits. -/
def mass (g : FVec F S16384x400 .f32) (wl : FVec F S24x100 .f32) (bl : FVec F S24 .f32) (sa ba : FVec F S1x16384x12 .f32) :
    FVec F S16384x24 .f32 :=
  mulf (mulf (unmarked sa) (unmarked ba)) (Host.exp (logits g wl bl))

/-- A row divided by its sum. -/
def probs (p : FVec F S16384x24 .f32) : FVec F S16384x24 .f32 :=
  Host.divf p (broadcastInDim S16384x24 ![0, 1] bcast_S16384x1_S16384x24_0_1 (broadcastInDim S16384x1 ![0] bcast_S16384_S16384x1_0
    (Host.reduceAdd p (constant S_ .f32 0x00000000#32) reducesTo_S16384x24_S16384_d1 h_S_)))

/-- The noise plus the logarithm of the probabilities, the zeros at -1e9. -/
def score (q : FVec F S16384x24 .f32) (nz : FVec F S16384x24 .f32) : FVec F S16384x24 .f32 :=
  addf nz (select (cmpf .ogt q (broadcastInDim S16384x24 ![] bcast_S_S16384x24 (constant S_ .f32 0x00000000#32)))
    (Host.log (maximumf q (broadcastInDim S16384x24 ![] bcast_S_S16384x24 (constant S_ .f32 0x0DA24260#32))))
    (broadcastInDim S16384x24 ![] bcast_S_S16384x24 (id (constant S_ .f32 0xCE6E6B28#32))))

/-- The first index at which a row attains its maximum. -/
def index (s : FVec F S16384x24 .f32) : IVec S16384 32 :=
  Host.reduce IntOp.minsi (select (cmpf .oge s (broadcastInDim S16384x24 ![0, 1] bcast_S16384x1_S16384x24_0_1
      (broadcastInDim S16384x1 ![0] bcast_S16384_S16384x1_0 (Host.reduce FloatOps.maximumf s (constant S_ .f32 0xFF800000#32)
        reducesTo_S16384x24_S16384_d1 h_S_))))
    (broadcastInDim S16384x24 ![1] bcast_S24_S16384x24_1 (iotaInDim S24 32 0))
    (broadcastInDim S16384x24 ![] bcast_S_S16384x24 (id (constantI S_ 32 24#32)))) (constantI S_ 32 2147483647#32)
    reducesTo_S16384x24_S16384_d1 h_S_

/-- The chosen note as a row of one 1 and 23 zeros. -/
def onehot (s : FVec F S16384x24 .f32) : FVec F S16384x24 .f32 :=
  uitofp .f32 (cmpi .eq (broadcastInDim S16384x24 ![0, 1] bcast_S16384x1_S16384x24_0_1
      (broadcastInDim S16384x1 ![0] bcast_S16384_S16384x1_0 (index s)))
    (broadcastInDim S16384x24 ![0, 1] bcast_S1x24_S16384x24_0_1 (iotaInDim S1x24 32 1)))

/-- The first 12 notes of a row. -/
def low (o : FVec F S16384x24 .f32) : FVec F S16384x12 .f32 := extractStridedSlice S16384x12 ![0, 0] o slices_S16384x24_S16384x12_0_0

/-- The last 12 notes of a row. -/
def high (o : FVec F S16384x24 .f32) : FVec F S16384x12 .f32 := extractStridedSlice S16384x12 ![0, 12] o slices_S16384x24_S16384x12_0_12

/-- No note taken. -/
def none0 : FVec F S1x16384x12 .f32 := broadcastInDim S1x16384x12 ![] bcast_S_S1x16384x12 (constant S_ .f32 0x00000000#32)

/-- The notes `s` with `o` added, held between 0 and 1. -/
def mark (s : FVec F S1x16384x12 .f32) (o : FVec F S16384x12 .f32) : FVec F S1x16384x12 .f32 :=
  minimumf (broadcastInDim S1x16384x12 ![] bcast_S_S1x16384x12 (id (constant S_ .f32 0x3F800000#32)))
    (maximumf (broadcastInDim S1x16384x12 ![] bcast_S_S1x16384x12 (id (constant S_ .f32 0x00000000#32)))
      (addf s (broadcastInDim S1x16384x12 ![1, 2] bcast_S16384x12_S1x16384x12_1_2 o)))

/-- The kept probabilities `s` with `o` times `q` added. -/
def keep (s : FVec F S1x16384x12 .f32) (o q : FVec F S16384x12 .f32) : FVec F S1x16384x12 .f32 :=
  addf s (broadcastInDim S1x16384x12 ![1, 2] bcast_S16384x12_S1x16384x12_1_2 (mulf o q))

/-- The arguments. -/
structure Args (F : FTy → Type) [FloatOps F] where
  /-- the input rows -/
  x : FVec F S1x16384x130 .f32
  /-- the input's weights -/
  w : FVec F S400x154 .f32
  /-- the hidden state's weights -/
  wh : FVec F S400x100 .f32
  /-- the first bias -/
  bi : FVec F S400 .f32
  /-- the second bias -/
  bh : FVec F S400 .f32
  /-- the output layer's weights -/
  wl : FVec F S24x100 .f32
  /-- the output layer's bias -/
  bl : FVec F S24 .f32
  /-- the five rounds' noise -/
  nz : FVec F S5x16384x24 .f32

/-- The arguments' arrays at launch. -/
def args (V : Valuation τ sig (Elt F)) : Args F where
  x := V (Proc.devRef .tc main_arg0)
  w := V (Proc.devRef .tc main_arg1)
  wh := V (Proc.devRef .tc main_arg2)
  bi := V (Proc.devRef .tc main_arg3)
  bh := V (Proc.devRef .tc main_arg4)
  wl := V (Proc.devRef .tc main_arg5)
  bl := V (Proc.devRef .tc main_arg6)
  nz := V (Proc.devRef .tc main_arg7)

/-- A round's probabilities, the sampled notes `sa` and the banned notes `ba` taken. -/
def prob (A : Args F) (sa ba : FVec F S1x16384x12 .f32) : FVec F S16384x24 .f32 :=
  probs (mass (gates A.x A.w A.wh A.bi A.bh sa ba) A.wl A.bl sa ba)

/-- A round's noise. -/
def noise (A : Args F) : Fin 5 → FVec F S16384x24 .f32 :=
  ![shapeCast _ (extractStridedSlice S1x16384x24 ![0, 0, 0] A.nz slices_S5x16384x24_S1x16384x24_0_0_0) shapeCasts_S1x16384x24_S16384x24,
    shapeCast _ (extractStridedSlice S1x16384x24 ![1, 0, 0] A.nz slices_S5x16384x24_S1x16384x24_1_0_0) shapeCasts_S1x16384x24_S16384x24,
    shapeCast _ (extractStridedSlice S1x16384x24 ![2, 0, 0] A.nz slices_S5x16384x24_S1x16384x24_2_0_0) shapeCasts_S1x16384x24_S16384x24,
    shapeCast _ (extractStridedSlice S1x16384x24 ![3, 0, 0] A.nz slices_S5x16384x24_S1x16384x24_3_0_0) shapeCasts_S1x16384x24_S16384x24,
    shapeCast _ (extractStridedSlice S1x16384x24 ![4, 0, 0] A.nz slices_S5x16384x24_S1x16384x24_4_0_0) shapeCasts_S1x16384x24_S16384x24]

/-- Round `v`'s chosen note, `sa` and `ba` taken. -/
def choice (A : Args F) (v : Fin 5) (sa ba : FVec F S1x16384x12 .f32) : FVec F S16384x24 .f32 :=
  onehot (score (prob A sa ba) (noise A v))

/-- The state after a round. -/
structure State (F : FTy → Type) [FloatOps F] where
  /-- the sampled notes -/
  sa : FVec F S1x16384x12 .f32
  /-- the banned notes -/
  ba : FVec F S1x16384x12 .f32
  /-- the sampled notes' probabilities -/
  sp : FVec F S1x16384x12 .f32
  /-- the banned notes' probabilities -/
  bp : FVec F S1x16384x12 .f32

/-- Nothing taken yet. -/
def start : State F := ⟨none0, none0, none0, none0⟩

/-- One round. -/
def step (A : Args F) (v : Fin 5) (s : State F) : State F where
  sa := mark s.sa (low (choice A v s.sa s.ba))
  ba := mark s.ba (high (choice A v s.sa s.ba))
  sp := keep s.sp (low (choice A v s.sa s.ba)) (low (prob A s.sa s.ba))
  bp := keep s.bp (high (choice A v s.sa s.ba)) (high (prob A s.sa s.ba))

variable (V : Valuation τ sig (Elt F))

theorem a1 : res_main_v100 V = mark (res_main_v0 V) (low (choice (args V) 0 (res_main_v0 V) (res_main_v1 V))) := rfl
theorem b1 : res_main_v103 V = mark (res_main_v1 V) (high (choice (args V) 0 (res_main_v0 V) (res_main_v1 V))) := rfl
theorem a2 : res_main_v200 V = mark (res_main_v100 V) (low (choice (args V) 1 (res_main_v100 V) (res_main_v103 V))) := rfl
theorem b2 : res_main_v203 V = mark (res_main_v103 V) (high (choice (args V) 1 (res_main_v100 V) (res_main_v103 V))) := rfl
theorem a3 : res_main_v300 V = mark (res_main_v200 V) (low (choice (args V) 2 (res_main_v200 V) (res_main_v203 V))) := rfl
theorem b3 : res_main_v303 V = mark (res_main_v203 V) (high (choice (args V) 2 (res_main_v200 V) (res_main_v203 V))) := rfl
theorem a4 : res_main_v400 V = mark (res_main_v300 V) (low (choice (args V) 3 (res_main_v300 V) (res_main_v303 V))) := rfl
theorem b4 : res_main_v403 V = mark (res_main_v303 V) (high (choice (args V) 3 (res_main_v300 V) (res_main_v303 V))) := rfl

/-- The state after `n` rounds. -/
def after (A : Args F) : ℕ → State F
  | 0 => start
  | n + 1 => step A (Fin.ofNat 5 n) (after A n)

theorem s0 : res_main_v0 V = (after (args V) 0).sa ∧ res_main_v1 V = (after (args V) 0).ba := ⟨rfl, rfl⟩
theorem s1 : res_main_v100 V = (after (args V) 1).sa ∧ res_main_v103 V = (after (args V) 1).ba := by
  rw [a1, b1, (s0 V).1, (s0 V).2]; exact ⟨rfl, rfl⟩
theorem s2 : res_main_v200 V = (after (args V) 2).sa ∧ res_main_v203 V = (after (args V) 2).ba := by
  rw [a2, b2, (s1 V).1, (s1 V).2]; exact ⟨rfl, rfl⟩
theorem s3 : res_main_v300 V = (after (args V) 3).sa ∧ res_main_v303 V = (after (args V) 3).ba := by
  rw [a3, b3, (s2 V).1, (s2 V).2]; exact ⟨rfl, rfl⟩
theorem s4 : res_main_v400 V = (after (args V) 4).sa ∧ res_main_v403 V = (after (args V) 4).ba := by
  rw [a4, b4, (s3 V).1, (s3 V).2]; exact ⟨rfl, rfl⟩

/-- The chosen note of each round, as the run names it. -/
theorem c0 : res_main_v87 V = choice (args V) 0 (res_main_v0 V) (res_main_v1 V) := rfl
theorem c1 : res_main_v187 V = choice (args V) 1 (res_main_v100 V) (res_main_v103 V) := rfl
theorem c2 : res_main_v287 V = choice (args V) 2 (res_main_v200 V) (res_main_v203 V) := rfl
theorem c3 : res_main_v387 V = choice (args V) 3 (res_main_v300 V) (res_main_v303 V) := rfl
theorem c4 : res_main_v487 V = choice (args V) 4 (res_main_v400 V) (res_main_v403 V) := rfl

/-- The probabilities of each round, as the run names them. -/
theorem q0 : res_main_v70 V = prob (args V) (res_main_v0 V) (res_main_v1 V) := rfl
theorem q1 : res_main_v170 V = prob (args V) (res_main_v100 V) (res_main_v103 V) := rfl
theorem q2 : res_main_v270 V = prob (args V) (res_main_v200 V) (res_main_v203 V) := rfl
theorem q3 : res_main_v370 V = prob (args V) (res_main_v300 V) (res_main_v303 V) := rfl
theorem q4 : res_main_v470 V = prob (args V) (res_main_v400 V) (res_main_v403 V) := rfl

/-- The run's first result: the sampled notes after five rounds. -/
theorem result0 : (shapeCast S16384x12 (minimumf (broadcastInDim S1x16384x12 ![] bcast_S_S1x16384x12 (id (constant S_ .f32 0x3F800000#32)))
    (maximumf (broadcastInDim S1x16384x12 ![] bcast_S_S1x16384x12 (id (constant S_ .f32 0x00000000#32)))
      (addf (res_main_v400 V) (broadcastInDim S1x16384x12 ![1, 2] bcast_S16384x12_S1x16384x12_1_2 (res_main_v488 V)))))
        shapeCasts_S1x16384x12_S16384x12 : FVec F S16384x12 .f32)
    = shapeCast S16384x12 (after (args V) 5).sa shapeCasts_S1x16384x12_S16384x12 := by
  show shapeCast S16384x12 (mark (res_main_v400 V) (low (res_main_v487 V))) shapeCasts_S1x16384x12_S16384x12 = _
  rw [c4, (s4 V).1, (s4 V).2]; rfl

/-- The kept probabilities the run builds up, over any selection of a round's 12 columns. -/
def sums (f : FVec F S16384x24 .f32 → FVec F S16384x12 .f32) : FVec F S1x16384x12 .f32 :=
  keep (keep (keep (keep (keep none0 (f (res_main_v87 V)) (f (res_main_v70 V))) (f (res_main_v187 V)) (f (res_main_v170 V)))
    (f (res_main_v287 V)) (f (res_main_v270 V))) (f (res_main_v387 V)) (f (res_main_v370 V))) (f (res_main_v487 V)) (f (res_main_v470 V))

theorem sums_low : sums V low = (after (args V) 5).sp := by
  unfold sums
  rw [c4, c3, c2, c1, c0, q4, q3, q2, q1, q0, (s4 V).1, (s4 V).2, (s3 V).1, (s3 V).2, (s2 V).1, (s2 V).2, (s1 V).1, (s1 V).2,
    (s0 V).1, (s0 V).2]; rfl

theorem sums_high : sums V high = (after (args V) 5).bp := by
  unfold sums
  rw [c4, c3, c2, c1, c0, q4, q3, q2, q1, q0, (s4 V).1, (s4 V).2, (s3 V).1, (s3 V).2, (s2 V).1, (s2 V).2, (s1 V).1, (s1 V).2,
    (s0 V).1, (s0 V).2]; rfl

/-- The run's second result: the probabilities kept over five rounds, the sampled notes' before the banned notes'. -/
def kept (A : Args F) : FVec F S16384x24 .f32 :=
  shapeCast S16384x24 (concatenate S1x16384x24 2 [⟨S1x16384x12, (after A 5).sp⟩, ⟨S1x16384x12, (after A 5).bp⟩]
    concatenates_S1x16384x12_S1x16384x12_S1x16384x24_d2) shapeCasts_S1x16384x24_S16384x24

/-- The run's first result, named. -/
def taken (A : Args F) : FVec F S16384x12 .f32 := shapeCast S16384x12 (after A 5).sa shapeCasts_S1x16384x12_S16384x12

open Idealize.SL.Sem in
/-- The run, its two results named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v504) = taken (args (launchContents m c))
      ∧ r.2.mem ((c.tc : Thread nD τ).loc main_v506) = kept (args (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result0 (launchContents m c)), (h c).2.1.trans (by
      unfold kept; rw [← sums_low, ← sums_high]; rfl), (h c).2.2⟩) (Value.run m ρ)

end Cert.ReferenceIdeal.Rounds

end
-- ==== Proof.RefRow.lean ====
/-
  The reference, row by row: after any number of rounds the arrays of taken notes hold the row's set of taken notes, and
  the arrays of kept probabilities hold what the row has kept.
-/
module

public import proofs.«01_k».proof.Proof.Row
public import proofs.«01_k».proof.Proof.Rounds
public import Idealize.ShloMosaic.Lib.Pipeline.ValueKit

@[expose] public section

set_option maxRecDepth 16384

noncomputable section

namespace Cert.ReferenceIdeal.Rounds

open Cert.Row Idealize.ShloMosaic

/-- What row `r` reads. -/
def rowOf (A : Args Ideal) (r : Fin 16384) : Data where
  x k := A.x (ix3 0 r k)
  w j k := A.w (ix2 j k)
  bi j := A.bi (ix1 j)
  bh j := A.bh (ix1 j)
  wl n j := A.wl (ix2 n j)
  bl n := A.bl (ix1 n)
  nz v n := A.nz (ix3 v r n)

/-- A note among the first 12. -/
abbrev lo (k : Fin 12) : Fin 24 := ⟨k, by omega⟩
/-- A note among the last 12. -/
abbrev hi (k : Fin 12) : Fin 24 := ⟨12 + k, by omega⟩

/-- Row `r` of the arrays of taken notes holds the set `S`. -/
def Holds (sa ba : FVec Ideal S1x16384x12 .f32) (S : Finset (Fin 24)) (r : Fin 16384) : Prop :=
  (∀ k : Fin 12, sa (ix3 0 r k) = ind S (lo k)) ∧ ∀ k : Fin 12, ba (ix3 0 r k) = ind S (hi k)

variable {A : Args Ideal} {sa ba : FVec Ideal S1x16384x12 .f32} {S : Finset (Fin 24)} {r : Fin 16384}

theorem gates_row (h : Holds sa ba S r) (j : Fin 400) : gates A.x A.w A.wh A.bi A.bh sa ba (ix2 r j) = gate (rowOf A r) S j := by
  pointwise [gates]
  rw [Finset.sum_eq_zero (s := Finset.univ (α := Fin 100)) (fun k _ => zero_mul _)]
  refine gate_eq (rowOf A r) S j _ (fun k => ?_) (fun k => ?_)
  · rw [dif_pos (show ((Fin.castLE (by norm_num) k : Fin 154) : ℕ) < 130 from k.isLt)]; rfl
  · have hk := k.isLt
    rw [dif_neg (show ¬ ((Fin.natAdd 130 k : Fin 154) : ℕ) < 130 by simp)]
    by_cases hk2 : (k : ℕ) < 12
    · rw [dif_pos (show ((Fin.natAdd 130 k : Fin 154) : ℕ) - 130 < 12 by simpa using hk2)]
      refine Eq.trans ?_ ((h.1 ⟨k, hk2⟩).trans rfl)
      congr 2
      simp [Fin.ext_iff]
    · rw [dif_neg (show ¬ ((Fin.natAdd 130 k : Fin 154) : ℕ) - 130 < 12 by simpa using hk2)]
      refine Eq.trans ?_ ((h.2 ⟨k - 12, by omega⟩).trans ?_)
      · congr 2
        simp [Fin.ext_iff]
      · congr 1
        simp only [Fin.ext_iff]; omega

theorem logits_row (h : Holds sa ba S r) (n : Fin 24) :
    logits (gates A.x A.w A.wh A.bi A.bh sa ba) A.wl A.bl (ix2 r n) = logit (rowOf A r) S n := by
  pointwise [logits]
  rw [logit]
  congr 1
  refine Finset.sum_congr rfl fun j _ => ?_
  congr 1
  pointwise [hidden, sigm]
  simp only [gates_row h, mul_zero, zero_add]
  rfl

theorem lo_or_hi (n : Fin 24) : (∃ k, n = lo k) ∨ ∃ k, n = hi k := by
  by_cases h : (n : ℕ) < 12
  · exact Or.inl ⟨⟨n, h⟩, rfl⟩
  · exact Or.inr ⟨⟨n - 12, by omega⟩, by simp only [Fin.ext_iff]; omega⟩

theorem partner_lo : ∀ k : Fin 12, partner (lo k) = hi k := by decide
theorem partner_hi : ∀ k : Fin 12, partner (hi k) = lo k := by decide

theorem mass_row (h : Holds sa ba S r) (n : Fin 24) :
    mass (gates A.x A.w A.wh A.bi A.bh sa ba) A.wl A.bl sa ba (ix2 r n) = Row.mass (rowOf A r) S n := by
  pointwise [mass, unmarked]
  rw [logits_row h, ← Row.mass_eq, ← coeff_eq]
  congr 1
  rcases lo_or_hi n with ⟨k, rfl⟩ | ⟨k, rfl⟩
  · rw [dif_pos k.isLt, dif_pos k.isLt, partner_lo]
    erw [h.1 k, h.2 k]
  · have hn : ¬ ((hi k : Fin 24) : ℕ) < 12 := by simp
    have hk : (⟨12 + (k : ℕ) - 12, by omega⟩ : Fin 12) = k := by simp [Fin.ext_iff]
    rw [dif_neg hn, dif_neg hn, partner_hi, mul_comm]
    erw [hk, h.1 k, h.2 k]

theorem prob_row (h : Holds sa ba S r) (n : Fin 24) : prob A sa ba (ix2 r n) = Row.prob (rowOf A r) S n := by
  rw [prob]
  pointwise [probs]
  simp only [mass_row h]
  rfl

theorem noise_row (v : Fin 5) (n : Fin 24) : noise A v (ix2 r n) = (rowOf A r).nz v n := by
  fin_cases v <;> pointwise [noise] <;> rfl

theorem choice_row (hD : Bounded (rowOf A r)) (hS : ∃ n, Free S n) (h : Holds sa ba S r) (v : Fin 5) (n : Fin 24) :
    choice A v sa ba (ix2 r n) = if n = Row.choice (rowOf A r) S v then 1 else 0 := by
  have hs : ∀ n, score (prob A sa ba) (noise A v) (ix2 r n) = Row.score (rowOf A r) S v n := by
    intro n
    pointwise [score]
    rw [noise_row, prob_row h, Row.score, ← log_prob S hD hS n, add_comm]
    rfl
  have hi : index (score (prob A sa ba) (noise A v)) (ix1 r) = BitVec.ofNat 32 (Row.choice (rowOf A r) S v : ℕ) := by
    pointwise [index]
    simp only [hs]
    exact index_eq (Row.score (rowOf A r) S v) _ (fold_max_le_iff _)
  rw [choice]
  pointwise [onehot]
  rw [hi]
  exact onehot_eq _ n

theorem step_row (hD : Bounded (rowOf A r)) (hS : ∃ n, Free S n) (s : State Ideal) (h : Holds s.sa s.ba S r) (v : Fin 5) :
    Holds (step A v s).sa (step A v s).ba (insert (Row.choice (rowOf A r) S v) S) r := by
  have one : id (constant (F := Ideal) S_ .f32 1065353216#32) ix0 = (1 : EReal) := Ideal.ofBits_one_f32
  have zero : id (constant (F := Ideal) S_ .f32 0#32) ix0 = (0 : EReal) := Ideal.ofBits_zero_f32
  constructor
  · intro k
    rw [step]
    pointwise [mark, low]
    rw [one, zero, h.1 k, choice_row hD hS h, clamp_mark]
  · intro k
    rw [step]
    pointwise [mark, high]
    rw [one, zero, h.2 k, choice_row hD hS h, clamp_mark]

theorem after_row (hD : Bounded (rowOf A r)) (v : ℕ) (hv : v ≤ 5) :
    Holds (after A v).sa (after A v).ba (Row.taken (rowOf A r) v) r
      ∧ (∀ k : Fin 12, (after A v).sp (ix3 0 r k) = Row.kept (rowOf A r) v (lo k))
      ∧ ∀ k : Fin 12, (after A v).bp (ix3 0 r k) = Row.kept (rowOf A r) v (hi k) := by
  induction v with
  | zero =>
    refine ⟨⟨fun k => ?_, fun k => ?_⟩, fun k => ?_, fun k => ?_⟩ <;> (rw [after, start]; pointwise [none0]; rfl)
  | succ v ih =>
    obtain ⟨h, hp, hq⟩ := ih (by omega)
    have hS := exists_free (Row.taken (rowOf A r) v) ((card_taken _ v).trans (by omega))
    refine ⟨step_row hD hS _ h _, fun k => ?_, fun k => ?_⟩
    · rw [after, step]
      pointwise [keep, low]
      rw [hp k, choice_row hD hS h, prob_row h, Row.kept]
    · rw [after, step]
      pointwise [keep, high]
      rw [hq k, choice_row hD hS h, prob_row h, Row.kept]

/-- The first result at a row: the row's set of taken notes among the first 12. -/
theorem taken_row (hD : Bounded (rowOf A r)) (k : Fin 12) : taken A (ix2 r k) = ind (Row.taken (rowOf A r) 5) (lo k) := by
  pointwise [taken]
  exact (after_row hD 5 le_rfl).1.1 k

/-- The second result at a row: what the row has kept. -/
theorem kept_row (hD : Bounded (rowOf A r)) (n : Fin 24) : kept A (ix2 r n) = Row.kept (rowOf A r) 5 n := by
  have h := (after_row hD 5 le_rfl).2
  pointwise [kept]
  rcases lo_or_hi n with ⟨k, rfl⟩ | ⟨k, rfl⟩
  · rw [dif_pos k.isLt]
    exact h.1 k
  · rw [dif_neg (show ¬ ((hi k : Fin 24) : ℕ) < 12 by simp)]
    refine Eq.trans ?_ (h.2 k)
    congr 2
    simp [Fin.ext_iff]

end Cert.ReferenceIdeal.Rounds

end
-- ==== Proof.Arrays.lean ====
/-
  The two result arrays after the kernel's run: block by block they hold the rows' results, which are the reference's.
-/
module

public import proofs.«01_k».proof.Proof.KernelRow
public import proofs.«01_k».proof.Proof.RefRow

@[expose] public section

set_option maxRecDepth 16384

noncomputable section

namespace Cert.KernelIdeal.Arrays

open Cert.KernelIdeal Cert.KernelIdeal.Gen Cert.KernelIdeal.HostArrays Cert.Row Idealize.ShloMosaic Idealize.ShloMosaic.TcCoe Idealize.SL.Sem
open Idealize.ShloMosaic.Pipeline (Dat)

variable (m : (ℓ : Loc nD τ sig) → Buf (Elt Ideal) ℓ) (c : Dev nD)

/-- The kernel's arguments as the reference's. -/
def args : Cert.ReferenceIdeal.Rounds.Args Ideal where
  x := m ((c : Thread nD τ).loc main_arg0)
  w := m ((c : Thread nD τ).loc main_arg1)
  wh := m ((c : Thread nD τ).loc main_arg2)
  bi := m ((c : Thread nD τ).loc main_arg3)
  bh := m ((c : Thread nD τ).loc main_arg4)
  wl := m ((c : Thread nD τ).loc main_arg5)
  bl := m ((c : Thread nD τ).loc main_arg6)
  nz := m ((c : Thread nD τ).loc main_arg7)

/-- The windows' block indices. -/
theorem idx : ∀ t : Fin cfg0.N, win0_0.index t = ![0, t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, t.val, 0]
    ∧ win0_8.index t = ![t.val, 0] ∧ win0_9.index t = ![t.val, 0] :=
  (by decide +kernel : ∀ t : Fin grid0.N, _)

/-- Row `r` of block `t` in the whole array. -/
def globalRow (t : Fin cfg0.N) (r : Fin 2048) : Fin 16384 := ⟨t.val * 2048 + r, by
  have h1 := t.isLt; have h2 : cfg0.N = 8 := N_0; have h3 := r.isLt; omega⟩

/-- The noise blocks of point `t`. -/
def noise (t : Fin cfg0.N) : Fin 5 → FVec Ideal S2048x24 .f32 :=
  (Body.ins (F := Ideal) (iblk m c 0 t) (iblk m c 1 t) (iblk m c 2 t) (iblk m c 3 t) (iblk m c 4 t) (iblk m c 5 t) (iblk m c 6 t) (iblk m c 7 t)).nz

theorem blk1 (t : Fin cfg0.N) : iblk m c 1 t = V m c main_v14 := by
  blk_ext! [iblk, idx t]
theorem blk2 (t : Fin cfg0.N) : iblk m c 2 t = V m c main_v16 := by
  blk_ext! [iblk, idx t]
theorem blk3 (t : Fin cfg0.N) : iblk m c 3 t = V m c main_v22 := by
  blk_ext! [iblk, idx t]
theorem blk4 (t : Fin cfg0.N) : iblk m c 4 t = V m c main_v25 := by
  blk_ext! [iblk, idx t]
theorem blk5 (t : Fin cfg0.N) : iblk m c 5 t = V m c main_v26 := by
  blk_ext! [iblk, idx t]
theorem blk6 (t : Fin cfg0.N) : iblk m c 6 t = V m c main_cst_0 := by
  blk_ext! [iblk, idx t]

theorem x_blk (t : Fin cfg0.N) (r : Fin 2048) (k : Fin 130) :
    (iblk m c 0 t : FVec Ideal S1x2048x130 .f32) (ix3 0 r k) = (args m c).x (ix3 0 (globalRow t r) k) := by
  show (iblk m c 0 t : FVec Ideal S1x2048x130 .f32) (ix3 0 r k) = m ((c : Thread nD τ).loc main_arg0) (ix3 0 (globalRow t r) k)
  blk_ext! [iblk, V, idx t, globalRow]

theorem nz_blk (t : Fin cfg0.N) (r : Fin 2048) (v : Fin 5) (n : Fin 24) :
    (iblk m c 7 t : FVec Ideal S5x2048x24 .f32) (ix3 v r n) = (args m c).nz (ix3 v (globalRow t r) n) := by
  show (iblk m c 7 t : FVec Ideal S5x2048x24 .f32) (ix3 v r n) = m ((c : Thread nD τ).loc main_arg7) (ix3 v (globalRow t r) n)
  blk_ext! [iblk, V, idx t, globalRow]

theorem noise_blk (t : Fin cfg0.N) (r : Fin 2048) (v : Fin 5) (n : Fin 24) :
    noise m c t v (ix2 r n) = (args m c).nz (ix3 v (globalRow t r) n) := by
  rw [← nz_blk]
  fin_cases v <;> (pointwise [noise, Body.ins]; try rfl)

theorem zero2 : (![0, 0] : Fin 2 → Nat) = fun _ => 0 := by decide
theorem zero3 : (![0, 0, 0] : Fin 3 → Nat) = fun _ => 0 := by decide

/-- A point's loads: its rows of the input and of the noise, and the prepared arrays. -/
theorem ins_eq (t : Fin cfg0.N) :
    Body.ins (iblk m c 0 t) (iblk m c 1 t) (iblk m c 2 t) (iblk m c 3 t) (iblk m c 4 t) (iblk m c 5 t) (iblk m c 6 t) (iblk m c 7 t)
      = Body.insOf (iblk m c 0 t) (args m c).w (args m c).bi (args m c).bh (args m c).wl (args m c).bl (noise m c t) := by
  rw [noise, blk1, blk2, blk3, blk4, blk5, blk6, entry_wx, entry_wc, entry_b, entry_wl, entry_bl, entry_lt, Body.insOf]
  simp only [Body.ins]
  rw [View.ld_unit_zero zero3, View.ld_unit_zero zero2, View.ld_unit_zero zero2, View.ld_unit_zero zero2, View.ld_unit_zero zero2,
    View.ld_unit_zero zero2, View.ld_unit_zero zero2]
  rfl

/-- Row `r` of point `t` reads what the whole arrays' row reads. -/
theorem row_eq (t : Fin cfg0.N) (r : Fin 2048) :
    Body.rowOf (iblk m c 0 t) (args m c).w (args m c).bi (args m c).bh (args m c).wl (args m c).bl (noise m c t) r
      = Cert.ReferenceIdeal.Rounds.rowOf (args m c) (globalRow t r) := by
  unfold Body.rowOf Cert.ReferenceIdeal.Rounds.rowOf
  congr 1
  · funext k; exact x_blk m c t r k
  · funext v n; exact noise_blk m c t r v n

theorem final8 (hD : ∀ r, Bounded (Cert.ReferenceIdeal.Rounds.rowOf (args m c) r)) :
    (dats m 0 c).arrAt 8 (cfgs 0).N = Cert.ReferenceIdeal.Rounds.taken (args m c) := by
  refine (dats m 0 c).arrAt_eq_of_covers 8 _ (by decide +kernel) fun t _ y => ?_
  blk_simp
  rw [after0_8, Body.out8, View.canon_unit_zero zero2, ins_eq]
  obtain ⟨r, k, rfl⟩ : ∃ (r : Fin 2048) (k : Fin 12), y = ix2 r k :=
    ⟨y 0, y 1, funext fun a => by fin_cases a <;> rfl⟩
  have he : (win0_8.blk t).view.emb (ix2 r k) = (ix2 (globalRow t r) k : S16384x12.Idx) := by
    blk_ext! [idx t, globalRow]
  rw [he, Cert.ReferenceIdeal.Rounds.taken_row (hD _), ← row_eq]
  pointwise
  exact Body.sb5_row _ _ _ _ _ _ _ r _

theorem final9 (hD : ∀ r, Bounded (Cert.ReferenceIdeal.Rounds.rowOf (args m c) r)) :
    (dats m 0 c).arrAt 9 (cfgs 0).N = Cert.ReferenceIdeal.Rounds.kept (args m c) := by
  refine (dats m 0 c).arrAt_eq_of_covers 9 _ (by decide +kernel) fun t _ y => ?_
  blk_simp
  rw [after0_9, Body.out9, View.canon_unit_zero zero2, ins_eq]
  obtain ⟨r, n, rfl⟩ : ∃ (r : Fin 2048) (n : Fin 24), y = ix2 r n :=
    ⟨y 0, y 1, funext fun a => by fin_cases a <;> rfl⟩
  have he : (win0_9.blk t).view.emb (ix2 r n) = (ix2 (globalRow t r) n : S16384x24.Idx) := by
    blk_ext! [idx t, globalRow]
  rw [he, Cert.ReferenceIdeal.Rounds.kept_row (hD _), ← row_eq]
  exact Body.p5_row _ _ _ _ _ _ _ r n

end Cert.KernelIdeal.Arrays

end
-- ==== Proof.Precondition.lean ====
/-
  What the precondition says of the arrays: the output weights and their biases are real numbers, and each output's
  absolute weights and bias add up to at most 32.
-/
module

public import proofs.«01_k».proof.Defs
public import proofs.«01_k».proof.Proof.Gen.Pre_logits_bounded
public import proofs.«01_k».proof.Proof.Arrays

@[expose] public section

noncomputable section

namespace Cert.Pre_logits_bounded

open Idealize.ShloMosaic Cert.Pre_logits_bounded.Gen Cert.Row

/-- A conjunction of flags is set only when every flag is. -/
theorem all_of_fold {α : Type} [DecidableEq α] (f : α → BitVec 1) (s : Finset α)
    (h : s.fold IntOp.andi 1#1 f = 1#1) : ∀ x ∈ s, f x = 1#1 := by
  have split : ∀ a b : BitVec 1, IntOp.andi a b = 1#1 → a = 1#1 ∧ b = 1#1 := by decide
  induction s using Finset.induction with
  | empty => simp
  | insert a s ha ih =>
    rw [Finset.fold_insert ha] at h
    obtain ⟨h1, h2⟩ := split _ _ h
    intro x hx
    rcases Finset.mem_insert.mp hx with rfl | hx
    exacts [h1, ih h2 x hx]

/-- An extended real of absolute value at most 32 is a real number. -/
theorem real_of_abs_le {x : EReal} (h : max x (-x) ≤ ((32 : ℝ) : EReal)) : ∃ a : ℝ, x = a := by
  induction x with
  | bot => exact absurd (le_trans (le_max_right _ _) h) (by simp)
  | top => exact absurd (le_trans (le_max_left _ _) h) (by simp)
  | coe a => exact ⟨a, rfl⟩

/-- An absolute value is not negative. -/
theorem abs_nonneg' (x : EReal) : 0 ≤ max x (-x) := by
  rcases le_total 0 x with h | h
  · exact le_trans h (le_max_left _ _)
  · exact le_trans (EReal.neg_nonneg.mpr h) (le_max_right _ _)

/-- The absolute value of a real number is the real one. -/
theorem coe_abs (a : ℝ) : max (a : EReal) (-(a : EReal)) = ((|a| : ℝ) : EReal) := by
  rw [← EReal.coe_neg]
  exact (EReal.coe_strictMono.monotone.map_max (a := a) (b := -a)).symm

/-- Weights and biases bounded as extended reals are bounded reals. -/
theorem reals_of_le {N J : ℕ} (w : Fin N → Fin J → EReal) (b : Fin N → EReal)
    (h : ∀ n, ∑ j, max (w n j) (-(w n j)) + max (b n) (-(b n)) ≤ ((32 : ℝ) : EReal)) :
    ∃ (a : Fin N → Fin J → ℝ) (c : Fin N → ℝ), (∀ n j, w n j = a n j) ∧ (∀ n, b n = c n) ∧
      ∀ n, ∑ j, |a n j| + |c n| ≤ 32 := by
  have hw : ∀ n j, ∃ a : ℝ, w n j = a := fun n j => real_of_abs_le <| by
    refine le_trans (Finset.single_le_sum (f := fun j => max (w n j) (-(w n j))) (fun j _ => abs_nonneg' _) (Finset.mem_univ j)) ?_
    exact le_trans (le_add_of_nonneg_right (abs_nonneg' _)) (h n)
  have hb : ∀ n, ∃ c : ℝ, b n = c := fun n => real_of_abs_le <|
    le_trans (le_add_of_nonneg_left (Finset.sum_nonneg fun j _ => abs_nonneg' _)) (h n)
  choose a ha using hw
  choose c hc using hb
  refine ⟨a, c, ha, hc, fun n => ?_⟩
  have := h n
  simp only [ha, hc, coe_abs] at this
  rw [← coe_sum, ← EReal.coe_add, EReal.coe_le_coe_iff] at this
  exact this

/-- The precondition, read at the weights and biases. -/
theorem bound_of_fn {a0 : FVec Ideal S1x16384x130 .f32} {a1 : FVec Ideal S400x154 .f32} {a2 : FVec Ideal S400x100 .f32}
    {a3 a4 : FVec Ideal S400 .f32} {a5 : FVec Ideal S24x100 .f32} {a6 : FVec Ideal S24 .f32} {a7 : FVec Ideal S5x16384x24 .f32}
    (h : fn a0 a1 a2 a3 a4 a5 a6 a7 ix0 = 1#1) (n : Fin 24) :
    ∑ j : Fin 100, max (a5 (ix2 n j)) (-(a5 (ix2 n j))) + max (a6 (ix1 n)) (-(a6 (ix1 n))) ≤ ((32 : ℝ) : EReal) := by
  revert h
  pointwise [fn]
  intro h
  have := all_of_fold _ _ h n (Finset.mem_univ n)
  rw [thirtytwo] at this
  have flag : ∀ b : Bool, BitVec.ofBool b = 1#1 → b = true := by decide
  exact of_decide_eq_true (flag _ this)

end Cert.Pre_logits_bounded

namespace Cert.KernelIdeal.Arrays

open Idealize.ShloMosaic Cert.KernelIdeal Cert.Row

/-- Under the precondition every row's output weights and biases are bounded. -/
theorem bounded (m : (ℓ : Loc nD τ sig) → Buf (Elt Ideal) ℓ) (hm : Cert.Pre_KernelIdeal_logits_bounded m) (c : Dev nD)
    (r : Fin 16384) : Bounded (Cert.ReferenceIdeal.Rounds.rowOf (args m c) r) :=
  Cert.Pre_logits_bounded.reals_of_le _ _ fun n =>
    Cert.Pre_logits_bounded.bound_of_fn (congrFun (hm c) ix0) n

end Cert.KernelIdeal.Arrays

end
-- ==== Proof.lean ====
/-
  The claims: kernel and reference run to the end and leave their arguments and every semaphore counter as they were;
  the ideal kernel is the kernel; and over the extended reals kernel and reference end with the same two arrays. Both
  arrays are compared row by row with one description of a row (Proof/Row.lean): the kernel's in Proof/Arrays.lean,
  the reference's in Proof/RefRow.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Frame
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_logits_bounded
public import proofs.«01_k».proof.Proof.Precondition
public import Idealize.ShloMosaic.Adequacy
public import Idealize.ShloMosaic.Init

@[expose] public section

noncomputable section

namespace Cert.Proof

open Idealize.ShloMosaic Idealize.SL.Sem Cert.Kernel

/-- The reference's run, read at its argument arrays; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0 :=
  (θ_run Cert.ReferenceIdeal.defs _ _).mono (fun r h => ⟨fun c => (h c).2.2, sem_eq_zero_of_no_sems (by decide) r.2⟩)
    (Cert.ReferenceIdeal.Rounds.run m ρ)

/-- Memories that agree on the arguments give the two programs the same arrays. -/
theorem args_eq (m : (ℓ : Loc Cert.KernelIdeal.nD Cert.KernelIdeal.τ Cert.KernelIdeal.sig) → Buf (Elt Ideal) ℓ)
    (A : Cert.ReferenceIdeal.Rounds.Args Ideal) (c : Dev Cert.KernelIdeal.nD)
    (h0 : A.x = (Cert.KernelIdeal.Arrays.args m c).x) (h1 : A.w = (Cert.KernelIdeal.Arrays.args m c).w)
    (h2 : A.wh = (Cert.KernelIdeal.Arrays.args m c).wh) (h3 : A.bi = (Cert.KernelIdeal.Arrays.args m c).bi)
    (h4 : A.bh = (Cert.KernelIdeal.Arrays.args m c).bh) (h5 : A.wl = (Cert.KernelIdeal.Arrays.args m c).wl)
    (h6 : A.bl = (Cert.KernelIdeal.Arrays.args m c).bl) (h7 : A.nz = (Cert.KernelIdeal.Arrays.args m c).nz) :
    A = Cert.KernelIdeal.Arrays.args m c := by
  cases A
  simp only at h0 h1 h2 h3 h4 h5 h6 h7
  subst h0 h1 h2 h3 h4 h5 h6 h7
  rfl

/-- Both programs end with the rounds' two results of the same arguments. -/
theorem algebraic : Cert.algebraic_KernelIdeal_ReferenceIdeal_pre_logits_bounded := by
  intro m ρ m' ρ' hm hagree
  have e (c : Dev Cert.KernelIdeal.nD) :
      Cert.ReferenceIdeal.Rounds.args (StableHlo.launchContents m' c) = Cert.KernelIdeal.Arrays.args m c := by
    obtain ⟨h0, h1, h2, h3, h4, h5, h6, h7⟩ := hagree c
    exact args_eq m _ c h0 h1 h2 h3 h4 h5 h6 h7
  refine ⟨fun c => Cert.ReferenceIdeal.Rounds.taken (Cert.KernelIdeal.Arrays.args m c),
    fun c => Cert.ReferenceIdeal.Rounds.kept (Cert.KernelIdeal.Arrays.args m c), ?_, ?_⟩
  · exact (θ_run Cert.KernelIdeal.defs _ _).mono (fun _ h c =>
      ⟨(h c).1.trans (Cert.KernelIdeal.Arrays.final8 m c (Cert.KernelIdeal.Arrays.bounded m hm c)),
        (h c).2.1.trans (Cert.KernelIdeal.Arrays.final9 m c (Cert.KernelIdeal.Arrays.bounded m hm c)), (h c).2.2⟩)
      (Cert.KernelIdeal.Value.run_blocks m ρ)
  · exact (θ_run Cert.ReferenceIdeal.defs _ _).mono (fun _ h c =>
      ⟨(h c).1.trans (congrArg Cert.ReferenceIdeal.Rounds.taken (e c)),
        (h c).2.1.trans (congrArg Cert.ReferenceIdeal.Rounds.kept (e c)), (h c).2.2⟩)
      (Cert.ReferenceIdeal.Rounds.run m' ρ')

/-- All the claims of the statement. -/
theorem claim : Cert.Claim :=
  ⟨Cert.Kernel.Gen.facts, Cert.KernelIdeal.Gen.facts, Cert.ReferenceIdeal.Gen.facts, Cert.Pre_logits_bounded.Gen.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial, algebraic⟩

end Cert.Proof

end
